-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S8x8192x4 : Shape := ⟨3, ![8, 8192, 4]⟩
abbrev S8 : Shape := ⟨1, ![8]⟩
abbrev S4x256 : Shape := ⟨2, ![4, 256]⟩
abbrev S256 : Shape := ⟨1, ![256]⟩
abbrev S256x5 : Shape := ⟨2, ![256, 5]⟩
abbrev S5 : Shape := ⟨1, ![5]⟩
abbrev S5x5 : Shape := ⟨2, ![5, 5]⟩
abbrev S5x16 : Shape := ⟨2, ![5, 16]⟩
abbrev S_ : Shape := ⟨0, ![]⟩

class Facts : Prop where
  bcast_S_S8x8192x4 : S_.BroadcastsInDim S8x8192x4 (![] : Fin 0 → Fin S8x8192x4.rank)
  bcast_S_S4x256 : S_.BroadcastsInDim S4x256 (![] : Fin 0 → Fin S4x256.rank)
  bcast_S_S256 : S_.BroadcastsInDim S256 (![] : Fin 0 → Fin S256.rank)
  bcast_S_S256x5 : S_.BroadcastsInDim S256x5 (![] : Fin 0 → Fin S256x5.rank)
  bcast_S_S5 : S_.BroadcastsInDim S5 (![] : Fin 0 → Fin S5.rank)
  bcast_S_S5x5 : S_.BroadcastsInDim S5x5 (![] : Fin 0 → Fin S5x5.rank)
  bcast_S_S5x16 : S_.BroadcastsInDim S5x16 (![] : Fin 0 → Fin S5x16.rank)
  bcast_S_S8 : S_.BroadcastsInDim S8 (![] : Fin 0 → Fin S8.rank)

variable [Facts]

def fn_part1 {F : FTy → Type} [FloatOps F] (main_arg1 : IVec S8 32) (main_arg7 : FVec F S5 .f32) (main_arg8 : FVec F S5x16 .f32) (main_v2 : IVec S8x8192x4 1) (main_v5 : IVec S4x256 1) (main_v8 : IVec S256 1) (main_v11 : IVec S256x5 1) (main_v14 : IVec S5 1) (main_v17 : IVec S5x5 1) : IVec S8x8192x4 1 × IVec S4x256 1 × IVec S256 1 × IVec S256x5 1 × IVec S5 1 × IVec S5x5 1 × IVec S5 1 × IVec S5x16 1 × IVec S8 1 :=
  let main_v18 : FVec F S5 .f32 := Host.absf main_arg7
  let main_cst_5 : FVec F S_ .f32 := constant S_ .f32 0x7F800000#32
  let main_v19 : FVec F S5 .f32 := broadcastInDim S5 ![] bcast_S_S5 main_cst_5
  let main_v20 : IVec S5 1 := cmpf .olt main_v18 main_v19
  let main_v21 : FVec F S5x16 .f32 := Host.absf main_arg8
  let main_cst_6 : FVec F S_ .f32 := constant S_ .f32 0x7F800000#32
  let main_v22 : FVec F S5x16 .f32 := broadcastInDim S5x16 ![] bcast_S_S5x16 main_cst_6
  let main_v23 : IVec S5x16 1 := cmpf .olt main_v21 main_v22
  let main_c : IVec S_ 32 := constantI S_ 32 1#32
  let main_v24 : IVec S8 32 := broadcastInDim S8 ![] bcast_S_S8 main_c
  let main_v25 : IVec S8 1 := cmpi .sge main_arg1 main_v24
  let main_c_7 : IVec S_ 32 := constantI S_ 32 8192#32
  let main_v26 : IVec S8 32 := broadcastInDim S8 ![] bcast_S_S8 main_c_7
  let main_v27 : IVec S8 1 := cmpi .sle main_arg1 main_v26
  let main_v28 : IVec S8 1 := andi main_v25 main_v27
  (main_v2, main_v5, main_v8, main_v11, main_v14, main_v17, main_v20, main_v23, main_v28)

def fn {F : FTy → Type} [FloatOps F] (main_arg0 : FVec F S8x8192x4 .f32) (main_arg1 : IVec S8 32) (main_arg2 : FVec F S4x256 .f32) (main_arg3 : FVec F S256 .f32) (main_arg4 : FVec F S256x5 .f32) (main_arg5 : FVec F S5 .f32) (main_arg6 : FVec F S5x5 .f32) (main_arg7 : FVec F S5 .f32) (main_arg8 : FVec F S5x16 .f32) : IVec S8x8192x4 1 × IVec S4x256 1 × IVec S256 1 × IVec S256x5 1 × IVec S5 1 × IVec S5x5 1 × IVec S5 1 × IVec S5x16 1 × IVec S8 1 :=
  let main_v0 : FVec F S8x8192x4 .f32 := Host.absf main_arg0
  let main_cst : FVec F S_ .f32 := constant S_ .f32 0x7F800000#32
  let main_v1 : FVec F S8x8192x4 .f32 := broadcastInDim S8x8192x4 ![] bcast_S_S8x8192x4 main_cst
  let main_v2 : IVec S8x8192x4 1 := cmpf .olt main_v0 main_v1
  let main_v3 : FVec F S4x256 .f32 := Host.absf main_arg2
  let main_cst_0 : FVec F S_ .f32 := constant S_ .f32 0x7F800000#32
  let main_v4 : FVec F S4x256 .f32 := broadcastInDim S4x256 ![] bcast_S_S4x256 main_cst_0
  let main_v5 : IVec S4x256 1 := cmpf .olt main_v3 main_v4
  let main_v6 : FVec F S256 .f32 := Host.absf main_arg3
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x5 .f32 := Host.absf main_arg4
  let main_cst_2 : FVec F S_ .f32 := constant S_ .f32 0x7F800000#32
  let main_v10 : FVec F S256x5 .f32 := broadcastInDim S256x5 ![] bcast_S_S256x5 main_cst_2
  let main_v11 : IVec S256x5 1 := cmpf .olt main_v9 main_v10
  let main_v12 : FVec F S5 .f32 := Host.absf main_arg5
  let main_cst_3 : FVec F S_ .f32 := constant S_ .f32 0x7F800000#32
  let main_v13 : FVec F S5 .f32 := broadcastInDim S5 ![] bcast_S_S5 main_cst_3
  let main_v14 : IVec S5 1 := cmpf .olt main_v12 main_v13
  let main_v15 : FVec F S5x5 .f32 := Host.absf main_arg6
  let main_cst_4 : FVec F S_ .f32 := constant S_ .f32 0x7F800000#32
  let main_v16 : FVec F S5x5 .f32 := broadcastInDim S5x5 ![] bcast_S_S5x5 main_cst_4
  let main_v17 : IVec S5x5 1 := cmpf .olt main_v15 main_v16
  fn_part1 (F := F) main_arg1 main_arg7 main_arg8 main_v2 main_v5 main_v8 main_v11 main_v14 main_v17
-- ==== Kernel.lean ====
abbrev S8x8192x4 : Shape := ⟨3, ![8, 8192, 4]⟩
abbrev S8 : Shape := ⟨1, ![8]⟩
abbrev S4x256 : Shape := ⟨2, ![4, 256]⟩
abbrev S256 : Shape := ⟨1, ![256]⟩
abbrev S256x5 : Shape := ⟨2, ![256, 5]⟩
abbrev S5 : Shape := ⟨1, ![5]⟩
abbrev S5x5 : Shape := ⟨2, ![5, 5]⟩
abbrev S5x16 : Shape := ⟨2, ![5, 16]⟩
abbrev S1x256 : Shape := ⟨2, ![1, 256]⟩
abbrev S1x5 : Shape := ⟨2, ![1, 5]⟩
abbrev S8x8192x5 : Shape := ⟨3, ![8, 8192, 5]⟩
abbrev S1x512x4 : Shape := ⟨3, ![1, 512, 4]⟩
abbrev S1x512x5 : Shape := ⟨3, ![1, 512, 5]⟩
abbrev S512x4 : Shape := ⟨2, ![512, 4]⟩
abbrev S512x256 : Shape := ⟨2, ![512, 256]⟩
abbrev S512x5 : Shape := ⟨2, ![512, 5]⟩
abbrev S512x512 : Shape := ⟨2, ![512, 512]⟩
abbrev S_ : Shape := ⟨0, ![]⟩
abbrev S8x1x5 : Shape := ⟨3, ![8, 1, 5]⟩
abbrev S8x8193x5 : Shape := ⟨3, ![8, 8193, 5]⟩
abbrev S5x1 : Shape := ⟨2, ![5, 1]⟩
abbrev S8193x5x8 : Shape := ⟨3, ![8193, 5, 8]⟩
abbrev S5x5x1 : Shape := ⟨3, ![5, 5, 1]⟩
abbrev S8193x5x5x8 : Shape := ⟨4, ![8193, 5, 5, 8]⟩
abbrev S5x8193x5x8 : Shape := ⟨4, ![5, 8193, 5, 8]⟩
abbrev S5x8193x40 : Shape := ⟨3, ![5, 8193, 40]⟩
abbrev S5x16x40 : Shape := ⟨3, ![5, 16, 40]⟩
abbrev S5x8209x40 : Shape := ⟨3, ![5, 8209, 40]⟩
abbrev S16x5 : Shape := ⟨2, ![16, 5]⟩
abbrev S16x5x5 : Shape := ⟨3, ![16, 5, 5]⟩
abbrev S5x16x5 : Shape := ⟨3, ![5, 16, 5]⟩
abbrev S5x16x5x8 : Shape := ⟨4, ![5, 16, 5, 8]⟩
abbrev S1x1x5 : Shape := ⟨3, ![1, 1, 5]⟩
abbrev S1x5x1 : Shape := ⟨3, ![1, 5, 1]⟩
abbrev S1x5x5 : Shape := ⟨3, ![1, 5, 5]⟩
abbrev S5x1x1 : Shape := ⟨3, ![5, 1, 1]⟩
abbrev S5x1x5 : Shape := ⟨3, ![5, 1, 5]⟩
abbrev S5x5x5 : Shape := ⟨3, ![5, 5, 5]⟩
abbrev S5x5x5x1 : Shape := ⟨4, ![5, 5, 5, 1]⟩
abbrev S5x5x5x2 : Shape := ⟨4, ![5, 5, 5, 2]⟩
abbrev S5x5x5x8 : Shape := ⟨4, ![5, 5, 5, 8]⟩
abbrev S5x5x40 : Shape := ⟨3, ![5, 5, 40]⟩
abbrev S5x5x8 : Shape := ⟨3, ![5, 5, 8]⟩
abbrev S5x40 : Shape := ⟨2, ![5, 40]⟩
abbrev S1x8 : Shape := ⟨2, ![1, 8]⟩
abbrev S5x8 : Shape := ⟨2, ![5, 8]⟩
abbrev S40 : Shape := ⟨1, ![40]⟩
abbrev S1x40 : Shape := ⟨2, ![1, 40]⟩
abbrev S1x16x40 : Shape := ⟨3, ![1, 16, 40]⟩
abbrev S16x40 : Shape := ⟨2, ![16, 40]⟩
abbrev S1x5x40 : Shape := ⟨3, ![1, 5, 40]⟩
abbrev S15x40 : Shape := ⟨2, ![15, 40]⟩
abbrev S1x1x40 : Shape := ⟨3, ![1, 1, 40]⟩

abbrev nBuf : Space → Nat
  | .hbm => 166
  | .vmem => 15
  | .smem => 0
  | _ => 0

abbrev hbmTy0_0 (i : Nat) : BufTy := match i % 128 with
  | 0 => ⟨S8x8192x4, .f32⟩
  | 1 => ⟨S8, .i32⟩
  | 2 => ⟨S4x256, .f32⟩
  | 3 => ⟨S256, .f32⟩
  | 4 => ⟨S256x5, .f32⟩
  | 5 => ⟨S5, .f32⟩
  | 6 => ⟨S5x5, .f32⟩
  | 7 => ⟨S5, .f32⟩
  | 8 => ⟨S5x16, .f32⟩
  | 9 => ⟨S1x256, .f32⟩
  | 10 => ⟨S1x5, .f32⟩
  | 11 => ⟨S8x8192x5, .f32⟩
  | 12 => ⟨S_, .f32⟩
  | 13 => ⟨S8x1x5, .f32⟩
  | 14 => ⟨S8x8193x5, .f32⟩
  | 15 => ⟨S5, .i32⟩
  | 16 => ⟨S1x5, .i32⟩
  | 17 => ⟨S5x1, .i32⟩
  | 18 => ⟨S5x5, .i32⟩
  | 19 => ⟨S5x5, .i32⟩
  | 20 => ⟨S5x5, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S5x5, .i32⟩
  | 28 => ⟨S5x5, .i32⟩
  | 29 => ⟨S_, .i32⟩
  | 30 => ⟨S5x5, .i32⟩
  | 31 => ⟨S5x5, .i1⟩
  | 32 => ⟨S_, .i32⟩
  | 33 => ⟨S5x5, .i32⟩
  | 34 => ⟨S5x5, .i1⟩
  | 35 => ⟨S_, .i32⟩
  | 36 => ⟨S_, .i1⟩
  | 37 => ⟨S5x5, .i1⟩
  | 38 => ⟨S5x5, .i1⟩
  | 39 => ⟨S5x5, .i1⟩
  | 40 => ⟨S5x5, .i32⟩
  | 41 => ⟨S5x5, .i32⟩
  | 42 => ⟨S5x5, .i32⟩
  | 43 => ⟨S8193x5x8, .f32⟩
  | 44 => ⟨S_, .i32⟩
  | 45 => ⟨S5x5, .i32⟩
  | 46 => ⟨S5x5, .i1⟩
  | 47 => ⟨S_, .i32⟩
  | 48 => ⟨S5x5, .i32⟩
  | 49 => ⟨S5x5, .i32⟩
  | 50 => ⟨S5x5, .i32⟩
  | 51 => ⟨S5x5x1, .i32⟩
  | 52 => ⟨S8193x5x5x8, .f32⟩
  | 53 => ⟨S5x8193x5x8, .f32⟩
  | 54 => ⟨S5x8193x40, .f32⟩
  | 55 => ⟨S_, .f32⟩
  | 56 => ⟨S5x16x40, .f32⟩
  | 57 => ⟨S5x8209x40, .f32⟩
  | 58 => ⟨S5x16, .f32⟩
  | 59 => ⟨S16x5, .f32⟩
  | 60 => ⟨S_, .i32⟩
  | 61 => ⟨S5x5, .i32⟩
  | 62 => ⟨S5x5, .i1⟩
  | 63 => ⟨S_, .i32⟩
  | 64 => ⟨S5x5, .i32⟩
  | 65 => ⟨S5x5, .i32⟩
  | 66 => ⟨S5x5, .i32⟩
  | 67 => ⟨S5x5x1, .i32⟩
  | 68 => ⟨S16x5x5, .f32⟩
  | 69 => ⟨S5x16x5, .f32⟩
  | 70 => ⟨S5x16x5x8, .f32⟩
  | 71 => ⟨S5x16x40, .f32⟩
  | 72 => ⟨S1x1x5, .i32⟩
  | 73 => ⟨S1x5x1, .i32⟩
  | 74 => ⟨S1x5x5, .i32⟩
  | 75 => ⟨S1x5x5, .i32⟩
  | 76 => ⟨S1x5x5, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S1x5x5, .i32⟩
  | 84 => ⟨S1x5x5, .i32⟩
  | 85 => ⟨S_, .i32⟩
  | 86 => ⟨S1x5x5, .i32⟩
  | 87 => ⟨S1x5x5, .i1⟩
  | 88 => ⟨S_, .i32⟩
  | 89 => ⟨S1x5x5, .i32⟩
  | 90 => ⟨S1x5x5, .i1⟩
  | 91 => ⟨S_, .i32⟩
  | 92 => ⟨S_, .i1⟩
  | 93 => ⟨S1x5x5, .i1⟩
  | 94 => ⟨S1x5x5, .i1⟩
  | 95 => ⟨S1x5x5, .i1⟩
  | 96 => ⟨S1x5x5, .i32⟩
  | 97 => ⟨S1x5x5, .i32⟩
  | 98 => ⟨S1x5x5, .i32⟩
  | 99 => ⟨S1x1x5, .i32⟩
  | 100 => ⟨S5x1x1, .i32⟩
  | 101 => ⟨S5x1x5, .i32⟩
  | 102 => ⟨S5x1x5, .i32⟩
  | 103 => ⟨S5x1x5, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S5x1x5, .i32⟩
  | 111 => ⟨S5x1x5, .i32⟩
  | 112 => ⟨S_, .i32⟩
  | 113 => ⟨S5x1x5, .i32⟩
  | 114 => ⟨S5x1x5, .i1⟩
  | 115 => ⟨S_, .i32⟩
  | 116 => ⟨S5x1x5, .i32⟩
  | 117 => ⟨S5x1x5, .i1⟩
  | 118 => ⟨S_, .i32⟩
  | 119 => ⟨S_, .i1⟩
  | 120 => ⟨S5x1x5, .i1⟩
  | 121 => ⟨S5x1x5, .i1⟩
  | 122 => ⟨S5x1x5, .i1⟩
  | 123 => ⟨S5x1x5, .i32⟩
  | 124 => ⟨S5x1x5, .i32⟩
  | 125 => ⟨S5x1x5, .i32⟩
  | 126 => ⟨S_, .i32⟩
  | 127 => ⟨S1x5x5, .i32⟩
  | _ => ⟨S8x8192x4, .f32⟩

abbrev hbmTy0_1 (i : Nat) : BufTy := match i % 128 with
  | 0 => ⟨S1x5x5, .i1⟩
  | 1 => ⟨S_, .i32⟩
  | 2 => ⟨S1x5x5, .i32⟩
  | 3 => ⟨S1x5x5, .i32⟩
  | 4 => ⟨S1x5x5, .i32⟩
  | 5 => ⟨S_, .i32⟩
  | 6 => ⟨S5x1x5, .i32⟩
  | 7 => ⟨S5x1x5, .i1⟩
  | 8 => ⟨S_, .i32⟩
  | 9 => ⟨S5x1x5, .i32⟩
  | 10 => ⟨S5x1x5, .i32⟩
  | 11 => ⟨S5x1x5, .i32⟩
  | 12 => ⟨S5x5x5, .i32⟩
  | 13 => ⟨S5x5x5, .i32⟩
  | 14 => ⟨S5x5x5x1, .i32⟩
  | 15 => ⟨S5x5x5x1, .i32⟩
  | 16 => ⟨S5x5x5x2, .i32⟩
  | 17 => ⟨S5x5x5, .f32⟩
  | 18 => ⟨S5x5x5x8, .f32⟩
  | 19 => ⟨S5x5x40, .f32⟩
  | 20 => ⟨S_, .i32⟩
  | 21 => ⟨S5x5, .i32⟩
  | 22 => ⟨S5x5, .i1⟩
  | 23 => ⟨S_, .i32⟩
  | 24 => ⟨S5x5, .i32⟩
  | 25 => ⟨S5x5, .i32⟩
  | 26 => ⟨S5x5, .i32⟩
  | 27 => ⟨S5x5x1, .i32⟩
  | 28 => ⟨S5x5, .f32⟩
  | 29 => ⟨S5x5x8, .f32⟩
  | 30 => ⟨S5x40, .f32⟩
  | 31 => ⟨S1x8, .i32⟩
  | 32 => ⟨S5x8, .i32⟩
  | 33 => ⟨S40, .i32⟩
  | 34 => ⟨S1x40, .i32⟩
  | 35 => ⟨S1x40, .f32⟩
  | 36 => ⟨S1x8, .f32⟩
  | 37 => ⟨S8, .f32⟩
  | _ => ⟨S8x8192x4, .f32⟩

abbrev hbmTy (i : Nat) : BufTy := match i / 128 with
  | 0 => hbmTy0_0 i
  | 1 => hbmTy0_1 i
  | _ => ⟨S8x8192x4, .f32⟩

abbrev bufTy : (tb : Table) → Fin (tcTables nBuf tb) → BufTy
  | .hbm, ⟨i, _⟩ => hbmTy i
  | .local _ .vmem, ⟨0, _⟩ => ⟨S1x512x4, .f32⟩
  | .local _ .vmem, ⟨1, _⟩ => ⟨S1x512x4, .f32⟩
  | .local _ .vmem, ⟨2, _⟩ => ⟨S4x256, .f32⟩
  | .local _ .vmem, ⟨3, _⟩ => ⟨S1x256, .f32⟩
  | .local _ .vmem, ⟨4, _⟩ => ⟨S256x5, .f32⟩
  | .local _ .vmem, ⟨5, _⟩ => ⟨S1x5, .f32⟩
  | .local _ .vmem, ⟨6, _⟩ => ⟨S1x512x5, .f32⟩
  | .local _ .vmem, ⟨7, _⟩ => ⟨S1x512x5, .f32⟩
  | .local _ .vmem, ⟨8, _⟩ => ⟨S1x5, .f32⟩
  | .local _ .vmem, ⟨9, _⟩ => ⟨S5x8209x40, .f32⟩
  | .local _ .vmem, ⟨10, _⟩ => ⟨S5x16x40, .f32⟩
  | .local _ .vmem, ⟨11, _⟩ => ⟨S5x5x40, .f32⟩
  | .local _ .vmem, ⟨12, _⟩ => ⟨S5x40, .f32⟩
  | .local _ .vmem, ⟨13, _⟩ => ⟨S1x40, .i32⟩
  | .local _ .vmem, ⟨14, _⟩ => ⟨S1x40, .f32⟩
  | _, _ => ⟨S8x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v11 : Ref sig .tc := ⟨.hbm, 42, rfl⟩
abbrev main_v12 : Ref sig .tc := ⟨.hbm, 43, rfl⟩
abbrev main_c_0 : Ref sig .tc := ⟨.hbm, 44, rfl⟩
abbrev main_v13 : Ref sig .tc := ⟨.hbm, 45, rfl⟩
abbrev main_v14 : Ref sig .tc := ⟨.hbm, 46, rfl⟩
abbrev main_c_1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_5 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_1 : Ref sig .tc := ⟨.hbm, 85, rfl⟩
abbrev main_call1_v5 : Ref sig .tc := ⟨.hbm, 86, rfl⟩
abbrev main_call1_v6 : Ref sig .tc := ⟨.hbm, 87, rfl⟩
abbrev main_call1_c_2 : Ref sig .tc := ⟨.hbm, 88, rfl⟩
abbrev main_call1_v7 : Ref sig .tc := ⟨.hbm, 89, rfl⟩
abbrev main_call1_v8 : Ref sig .tc := ⟨.hbm, 90, rfl⟩
abbrev main_call1_c_3 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_c_6 : Ref sig .tc := ⟨.hbm, 104, rfl⟩
abbrev main_call2_v0 : Ref sig .tc := ⟨.hbm, 105, rfl⟩
abbrev main_call2_c : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_c_1 : Ref sig .tc := ⟨.hbm, 112, rfl⟩
abbrev main_call2_v5 : Ref sig .tc := ⟨.hbm, 113, rfl⟩
abbrev main_call2_v6 : Ref sig .tc := ⟨.hbm, 114, rfl⟩
abbrev main_call2_c_2 : Ref sig .tc := ⟨.hbm, 115, rfl⟩
abbrev main_call2_v7 : Ref sig .tc := ⟨.hbm, 116, rfl⟩
abbrev main_call2_v8 : Ref sig .tc := ⟨.hbm, 117, rfl⟩
abbrev main_call2_c_3 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_v47 : Ref sig .tc := ⟨.hbm, 125, rfl⟩
abbrev main_c_7 : Ref sig .tc := ⟨.hbm, 126, rfl⟩
abbrev main_v48 : Ref sig .tc := ⟨.hbm, 127, rfl⟩
abbrev main_v49 : Ref sig .tc := ⟨.hbm, 128, rfl⟩
abbrev main_c_8 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_c_9 : Ref sig .tc := ⟨.hbm, 133, rfl⟩
abbrev main_v53 : Ref sig .tc := ⟨.hbm, 134, rfl⟩
abbrev main_v54 : Ref sig .tc := ⟨.hbm, 135, rfl⟩
abbrev main_c_10 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_c_11 : Ref sig .tc := ⟨.hbm, 148, rfl⟩
abbrev main_v66 : Ref sig .tc := ⟨.hbm, 149, rfl⟩
abbrev main_v67 : Ref sig .tc := ⟨.hbm, 150, rfl⟩
abbrev main_c_12 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := .none

@[reducible] def k1_t1_loop : Scf.Loop 32 :=
  let c1_i32 : BitVec 32 := 1#32
  let c8192_i32 : BitVec 32 := 8192#32
  let v43 : BitVec 32 := Scalar.addi c1_i32 c8192_i32
  let c1_i32_42 : BitVec 32 := 1#32
  ⟨c1_i32, v43, c1_i32_42⟩
def k1_off1 (k1_t1 : Fin k1_t1_loop.trips) : Fin 3 → Nat :=
  let c0_48 : Index := 0#32
  let c1_i32 : BitVec 32 := 1#32
  let c1_i32_42 : BitVec 32 := 1#32
  let arg6 : BitVec 32 := Scf.iv c1_i32 c1_i32_42 k1_t1
  let c16_i32 : BitVec 32 := 16#32
  let v56 : BitVec 32 := Scalar.addi arg6 c16_i32
  let v57 : Index := Scalar.indexCast v56
  let c0_49 : Index := 0#32
  ![0, v57.toNat, 0]
def k1_off2 (k1_t1 : Fin k1_t1_loop.trips) : Fin 3 → Nat :=
  let c1_53 : Index := 1#32
  let c1_i32 : BitVec 32 := 1#32
  let c1_i32_42 : BitVec 32 := 1#32
  let arg6 : BitVec 32 := Scf.iv c1_i32 c1_i32_42 k1_t1
  let c16_i32_52 : BitVec 32 := 16#32
  let v71 : BitVec 32 := Scalar.addi arg6 c16_i32_52
  let v72 : Index := Scalar.indexCast v71
  let c0_54 : Index := 0#32
  ![1, v72.toNat, 0]
def k1_off3 (k1_t1 : Fin k1_t1_loop.trips) : Fin 3 → Nat :=
  let c2_58 : Index := 2#32
  let c1_i32 : BitVec 32 := 1#32
  let c1_i32_42 : BitVec 32 := 1#32
  let arg6 : BitVec 32 := Scf.iv c1_i32 c1_i32_42 k1_t1
  let c16_i32_57 : BitVec 32 := 16#32
  let v86 : BitVec 32 := Scalar.addi arg6 c16_i32_57
  let v87 : Index := Scalar.indexCast v86
  let c0_59 : Index := 0#32
  ![2, v87.toNat, 0]
def k1_off4 (k1_t1 : Fin k1_t1_loop.trips) : Fin 3 → Nat :=
  let c3_63 : Index := 3#32
  let c1_i32 : BitVec 32 := 1#32
  let c1_i32_42 : BitVec 32 := 1#32
  let arg6 : BitVec 32 := Scf.iv c1_i32 c1_i32_42 k1_t1
  let c16_i32_62 : BitVec 32 := 16#32
  let v101 : BitVec 32 := Scalar.addi arg6 c16_i32_62
  let v102 : Index := Scalar.indexCast v101
  let c0_64 : Index := 0#32
  ![3, v102.toNat, 0]
def k1_off5 (k1_t1 : Fin k1_t1_loop.trips) : Fin 3 → Nat :=
  let c4_68 : Index := 4#32
  let c1_i32 : BitVec 32 := 1#32
  let c1_i32_42 : BitVec 32 := 1#32
  let arg6 : BitVec 32 := Scf.iv c1_i32 c1_i32_42 k1_t1
  let c16_i32_67 : BitVec 32 := 16#32
  let v116 : BitVec 32 := Scalar.addi arg6 c16_i32_67
  let v117 : Index := Scalar.indexCast v116
  let c0_69 : Index := 0#32
  ![4, v117.toNat, 0]
abbrev stage1_0 : Fin 1 → Memref sig .tc .vmem S5x8209x40 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5x16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S5x5x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x40 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8x8192x4 : Shape := ⟨3, ![8, 8192, 4]⟩
abbrev S8 : Shape := ⟨1, ![8]⟩
abbrev S4x256 : Shape := ⟨2, ![4, 256]⟩
abbrev S256 : Shape := ⟨1, ![256]⟩
abbrev S256x5 : Shape := ⟨2, ![256, 5]⟩
abbrev S5 : Shape := ⟨1, ![5]⟩
abbrev S5x5 : Shape := ⟨2, ![5, 5]⟩
abbrev S5x16 : Shape := ⟨2, ![5, 16]⟩
abbrev S8x8192x256 : Shape := ⟨3, ![8, 8192, 256]⟩
abbrev S1x1x256 : Shape := ⟨3, ![1, 1, 256]⟩
abbrev S_ : Shape := ⟨0, ![]⟩
abbrev S8x8192x5 : Shape := ⟨3, ![8, 8192, 5]⟩
abbrev S1x1x5 : Shape := ⟨3, ![1, 1, 5]⟩
abbrev S8x1x5 : Shape := ⟨3, ![8, 1, 5]⟩
abbrev S8x8193x5 : Shape := ⟨3, ![8, 8193, 5]⟩
abbrev S8x8209x5 : Shape := ⟨3, ![8, 8209, 5]⟩
abbrev S8x8192x1x5 : Shape := ⟨4, ![8, 8192, 1, 5]⟩
abbrev S8x8192x16x5 : Shape := ⟨4, ![8, 8192, 16, 5]⟩
abbrev S16x5 : Shape := ⟨2, ![16, 5]⟩
abbrev S8x16x5 : Shape := ⟨3, ![8, 16, 5]⟩
abbrev S1x5 : Shape := ⟨2, ![1, 5]⟩
abbrev S1 : Shape := ⟨1, ![1]⟩
abbrev S8x5 : Shape := ⟨2, ![8, 5]⟩
abbrev S8192x8x5 : Shape := ⟨3, ![8192, 8, 5]⟩
abbrev S8192x8x16x5 : Shape := ⟨4, ![8192, 8, 16, 5]⟩
abbrev S1x8x5 : Shape := ⟨3, ![1, 8, 5]⟩
abbrev S1x8x16x5 : Shape := ⟨4, ![1, 8, 16, 5]⟩
abbrev S1x16x5 : Shape := ⟨3, ![1, 16, 5]⟩
abbrev S8x5x1 : Shape := ⟨3, ![8, 5, 1]⟩
abbrev S1x5x5 : Shape := ⟨3, ![1, 5, 5]⟩
abbrev S8x5x5 : Shape := ⟨3, ![8, 5, 5]⟩
abbrev S8x15x5 : Shape := ⟨3, ![8, 15, 5]⟩
abbrev S8x1 : Shape := ⟨2, ![8, 1]⟩
abbrev S8x2 : Shape := ⟨2, ![8, 2]⟩

abbrev nBuf : Space → Nat
  | .hbm => 208
  | .vmem => 0
  | .smem => 0
  | _ => 0

abbrev hbmTy0_0 (i : Nat) : BufTy := match i % 128 with
  | 0 => ⟨S8x8192x4, .f32⟩
  | 1 => ⟨S8, .i32⟩
  | 2 => ⟨S4x256, .f32⟩
  | 3 => ⟨S256, .f32⟩
  | 4 => ⟨S256x5, .f32⟩
  | 5 => ⟨S5, .f32⟩
  | 6 => ⟨S5x5, .f32⟩
  | 7 => ⟨S5, .f32⟩
  | 8 => ⟨S5x16, .f32⟩
  | 9 => ⟨S8x8192x256, .f32⟩
  | 10 => ⟨S1x1x256, .f32⟩
  | 11 => ⟨S8x8192x256, .f32⟩
  | 12 => ⟨S8x8192x256, .f32⟩
  | 13 => ⟨S8x8192x256, .f32⟩
  | 14 => ⟨S8x8192x256, .f32⟩
  | 15 => ⟨S_, .f32⟩
  | 16 => ⟨S8x8192x256, .f32⟩
  | 17 => ⟨S8x8192x256, .f32⟩
  | 18 => ⟨S8x8192x256, .f32⟩
  | 19 => ⟨S_, .f32⟩
  | 20 => ⟨S8x8192x256, .f32⟩
  | 21 => ⟨S8x8192x256, .f32⟩
  | 22 => ⟨S8x8192x256, .f32⟩
  | 23 => ⟨S_, .f32⟩
  | 24 => ⟨S8x8192x256, .f32⟩
  | 25 => ⟨S8x8192x256, .f32⟩
  | 26 => ⟨S_, .f32⟩
  | 27 => ⟨S8x8192x256, .f32⟩
  | 28 => ⟨S8x8192x256, .f32⟩
  | 29 => ⟨S8x8192x256, .f32⟩
  | 30 => ⟨S8x8192x5, .f32⟩
  | 31 => ⟨S1x1x5, .f32⟩
  | 32 => ⟨S8x8192x5, .f32⟩
  | 33 => ⟨S8x8192x5, .f32⟩
  | 34 => ⟨S_, .f32⟩
  | 35 => ⟨S8x1x5, .f32⟩
  | 36 => ⟨S_, .f32⟩
  | 37 => ⟨S_, .f32⟩
  | 38 => ⟨S8x8192x5, .f32⟩
  | 39 => ⟨S8x8193x5, .f32⟩
  | 40 => ⟨S_, .i32⟩
  | 41 => ⟨S_, .f32⟩
  | 42 => ⟨S8x8209x5, .f32⟩
  | 43 => ⟨S8x8192x5, .f32⟩
  | 44 => ⟨S8x8192x5, .f32⟩
  | 45 => ⟨S8x8192x5, .f32⟩
  | 46 => ⟨S8x8192x5, .f32⟩
  | 47 => ⟨S8x8192x5, .f32⟩
  | 48 => ⟨S8x8192x5, .f32⟩
  | 49 => ⟨S8x8192x5, .f32⟩
  | 50 => ⟨S8x8192x5, .f32⟩
  | 51 => ⟨S8x8192x5, .f32⟩
  | 52 => ⟨S8x8192x5, .f32⟩
  | 53 => ⟨S8x8192x5, .f32⟩
  | 54 => ⟨S8x8192x5, .f32⟩
  | 55 => ⟨S8x8192x5, .f32⟩
  | 56 => ⟨S8x8192x5, .f32⟩
  | 57 => ⟨S8x8192x5, .f32⟩
  | 58 => ⟨S8x8192x5, .f32⟩
  | 59 => ⟨S8x8192x1x5, .f32⟩
  | 60 => ⟨S8x8192x1x5, .f32⟩
  | 61 => ⟨S8x8192x1x5, .f32⟩
  | 62 => ⟨S8x8192x1x5, .f32⟩
  | 63 => ⟨S8x8192x1x5, .f32⟩
  | 64 => ⟨S8x8192x1x5, .f32⟩
  | 65 => ⟨S8x8192x1x5, .f32⟩
  | 66 => ⟨S8x8192x1x5, .f32⟩
  | 67 => ⟨S8x8192x1x5, .f32⟩
  | 68 => ⟨S8x8192x1x5, .f32⟩
  | 69 => ⟨S8x8192x1x5, .f32⟩
  | 70 => ⟨S8x8192x1x5, .f32⟩
  | 71 => ⟨S8x8192x1x5, .f32⟩
  | 72 => ⟨S8x8192x1x5, .f32⟩
  | 73 => ⟨S8x8192x1x5, .f32⟩
  | 74 => ⟨S8x8192x1x5, .f32⟩
  | 75 => ⟨S8x8192x16x5, .f32⟩
  | 76 => ⟨S8x8192x5, .f32⟩
  | 77 => ⟨S16x5, .f32⟩
  | 78 => ⟨S_, .f32⟩
  | 79 => ⟨S8x16x5, .f32⟩
  | 80 => ⟨S1x5, .f32⟩
  | 81 => ⟨S_, .i32⟩
  | 82 => ⟨S1, .i32⟩
  | 83 => ⟨S8x5, .f32⟩
  | 84 => ⟨S8x16x5, .f32⟩
  | 85 => ⟨S8192x8x5, .f32⟩
  | 86 => ⟨S8192x8x16x5, .f32⟩
  | 87 => ⟨S_, .f32⟩
  | 88 => ⟨S8192x8x5, .f32⟩
  | 89 => ⟨S_, .i32⟩
  | 90 => ⟨S8192x8x5, .f32⟩
  | 91 => ⟨S8192x8x16x5, .f32⟩
  | 92 => ⟨S16x5, .f32⟩
  | 93 => ⟨S5x5, .f32⟩
  | 94 => ⟨S_, .i32⟩
  | 95 => ⟨S8x16x5, .f32⟩
  | 96 => ⟨S8192x8x5, .f32⟩
  | 97 => ⟨S_, .i32⟩
  | 98 => ⟨S_, .i1⟩
  | 99 => ⟨S_, .i32⟩
  | 100 => ⟨S_, .i32⟩
  | 101 => ⟨S1x8x5, .f32⟩
  | 102 => ⟨S8x5, .f32⟩
  | 103 => ⟨S_, .i32⟩
  | 104 => ⟨S_, .i32⟩
  | 105 => ⟨S_, .i32⟩
  | 106 => ⟨S1x8x16x5, .f32⟩
  | 107 => ⟨S8x16x5, .f32⟩
  | 108 => ⟨S8x1x5, .f32⟩
  | 109 => ⟨S8x16x5, .f32⟩
  | 110 => ⟨S8x16x5, .f32⟩
  | 111 => ⟨S8x16x5, .f32⟩
  | 112 => ⟨S1x16x5, .f32⟩
  | 113 => ⟨S8x16x5, .f32⟩
  | 114 => ⟨S8x16x5, .f32⟩
  | 115 => ⟨S_, .f32⟩
  | 116 => ⟨S8x5, .f32⟩
  | 117 => ⟨S8x1x5, .f32⟩
  | 118 => ⟨S8x1x5, .f32⟩
  | 119 => ⟨S_, .f32⟩
  | 120 => ⟨S8x1x5, .f32⟩
  | 121 => ⟨S8x1x5, .i1⟩
  | 122 => ⟨S_, .f32⟩
  | 123 => ⟨S_, .f32⟩
  | 124 => ⟨S8x1x5, .f32⟩
  | 125 => ⟨S8x1x5, .f32⟩
  | 126 => ⟨S8x16x5, .f32⟩
  | 127 => ⟨S8x16x5, .f32⟩
  | _ => ⟨S8x8192x4, .f32⟩

abbrev hbmTy0_1 (i : Nat) : BufTy := match i % 128 with
  | 0 => ⟨S8x16x5, .f32⟩
  | 1 => ⟨S_, .f32⟩
  | 2 => ⟨S8x5, .f32⟩
  | 3 => ⟨S8x5, .f32⟩
  | 4 => ⟨S8x5, .f32⟩
  | 5 => ⟨S8x5, .f32⟩
  | 6 => ⟨S8x5x1, .f32⟩
  | 7 => ⟨S1x5x5, .f32⟩
  | 8 => ⟨S8x5x5, .f32⟩
  | 9 => ⟨S8x5x5, .f32⟩
  | 10 => ⟨S8x5x5, .f32⟩
  | 11 => ⟨S_, .f32⟩
  | 12 => ⟨S8x5, .f32⟩
  | 13 => ⟨S8x1x5, .f32⟩
  | 14 => ⟨S8x1x5, .f32⟩
  | 15 => ⟨S_, .f32⟩
  | 16 => ⟨S8x1x5, .f32⟩
  | 17 => ⟨S8x1x5, .i1⟩
  | 18 => ⟨S_, .f32⟩
  | 19 => ⟨S_, .f32⟩
  | 20 => ⟨S8x1x5, .f32⟩
  | 21 => ⟨S8x1x5, .f32⟩
  | 22 => ⟨S8x5x5, .f32⟩
  | 23 => ⟨S8x5x5, .f32⟩
  | 24 => ⟨S8x5x5, .f32⟩
  | 25 => ⟨S_, .f32⟩
  | 26 => ⟨S8x5, .f32⟩
  | 27 => ⟨S8x5, .f32⟩
  | 28 => ⟨S8x5, .f32⟩
  | 29 => ⟨S8x5, .f32⟩
  | 30 => ⟨S8x1x5, .f32⟩
  | 31 => ⟨S8x15x5, .f32⟩
  | 32 => ⟨S8x16x5, .f32⟩
  | 33 => ⟨S1x8x5, .f32⟩
  | 34 => ⟨S_, .i32⟩
  | 35 => ⟨S_, .i32⟩
  | 36 => ⟨S8192x8x5, .f32⟩
  | 37 => ⟨S_, .i32⟩
  | 38 => ⟨S_, .i32⟩
  | 39 => ⟨S_, .i32⟩
  | 40 => ⟨S8, .i32⟩
  | 41 => ⟨S8, .i32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S8x1, .i32⟩
  | 59 => ⟨S8x2, .i32⟩
  | 60 => ⟨S8x5, .f32⟩
  | 61 => ⟨S_, .f32⟩
  | 62 => ⟨S8, .f32⟩
  | 63 => ⟨S8x1, .f32⟩
  | 64 => ⟨S8x1, .f32⟩
  | 65 => ⟨S_, .f32⟩
  | 66 => ⟨S8x1, .f32⟩
  | 67 => ⟨S8x1, .i1⟩
  | 68 => ⟨S_, .f32⟩
  | 69 => ⟨S_, .f32⟩
  | 70 => ⟨S8x1, .f32⟩
  | 71 => ⟨S8x1, .f32⟩
  | 72 => ⟨S8x5, .f32⟩
  | 73 => ⟨S8x5, .f32⟩
  | 74 => ⟨S8x5, .f32⟩
  | 75 => ⟨S_, .f32⟩
  | 76 => ⟨S8, .f32⟩
  | 77 => ⟨S8, .f32⟩
  | 78 => ⟨S8, .f32⟩
  | 79 => ⟨S8, .f32⟩
  | _ => ⟨S8x8192x4, .f32⟩

abbrev hbmTy (i : Nat) : BufTy := match i / 128 with
  | 0 => hbmTy0_0 i
  | 1 => hbmTy0_1 i
  | _ => ⟨S8x8192x4, .f32⟩

abbrev bufTy : (tb : Table) → Fin (tcTables nBuf tb) → BufTy
  | .hbm, ⟨i, _⟩ => hbmTy i
  | _, _ => ⟨S8x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_call0_call0_cst : Ref sig .tc := ⟨.hbm, 36, rfl⟩
abbrev main_call0_call0_v0 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_c_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_c_7 : Ref sig .tc := ⟨.hbm, 89, rfl⟩
abbrev main_v68_0 : Ref sig .tc := ⟨.hbm, 90, rfl⟩
abbrev main_v68_1 : Ref sig .tc := ⟨.hbm, 91, rfl⟩
abbrev main_v68_2 : Ref sig .tc := ⟨.hbm, 92, rfl⟩
abbrev main_v68_3 : Ref sig .tc := ⟨.hbm, 93, rfl⟩
abbrev main_v68_4 : Ref sig .tc := ⟨.hbm, 94, rfl⟩
abbrev main_v68_5 : Ref sig .tc := ⟨.hbm, 95, rfl⟩
abbrev main_v68_6 : Ref sig .tc := ⟨.hbm, 96, rfl⟩
abbrev main_while0c_c_23 : Ref sig .tc := ⟨.hbm, 97, rfl⟩
abbrev main_while0c_v99 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_v0 : Ref sig .tc := ⟨.hbm, 101, rfl⟩
abbrev main_while0b_v99 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_v0 : Ref sig .tc := ⟨.hbm, 106, rfl⟩
abbrev main_while0b_v100 : Ref sig .tc := ⟨.hbm, 107, rfl⟩
abbrev main_while0b_v101 : Ref sig .tc := ⟨.hbm, 108, rfl⟩
abbrev main_while0b_v102 : Ref sig .tc := ⟨.hbm, 109, rfl⟩
abbrev main_while0b_v103 : Ref sig .tc := ⟨.hbm, 110, rfl⟩
abbrev main_while0b_v104 : Ref sig .tc := ⟨.hbm, 111, rfl⟩
abbrev main_while0b_v105 : Ref sig .tc := ⟨.hbm, 112, rfl⟩
abbrev main_while0b_v106 : Ref sig .tc := ⟨.hbm, 113, rfl⟩
abbrev main_while0b_v107 : Ref sig .tc := ⟨.hbm, 114, rfl⟩
abbrev main_while0b_cst_23 : Ref sig .tc := ⟨.hbm, 115, rfl⟩
abbrev main_while0b_v108 : Ref sig .tc := ⟨.hbm, 116, rfl⟩
abbrev main_while0b_v109 : Ref sig .tc := ⟨.hbm, 117, rfl⟩
abbrev main_while0b_v110 : Ref sig .tc := ⟨.hbm, 118, rfl⟩
abbrev main_while0b_cst_24 : Ref sig .tc := ⟨.hbm, 119, rfl⟩
abbrev main_while0b_v111 : Ref sig .tc := ⟨.hbm, 120, rfl⟩
abbrev main_while0b_v112 : Ref sig .tc := ⟨.hbm, 121, rfl⟩
abbrev main_while0b_cst_25 : Ref sig .tc := ⟨.hbm, 122, rfl⟩
abbrev main_while0b_call4_v0 : Ref sig .tc := ⟨.hbm, 123, rfl⟩
abbrev main_while0b_call4_v1 : Ref sig .tc := ⟨.hbm, 124, rfl⟩
abbrev main_while0b_v113 : Ref sig .tc := ⟨.hbm, 125, rfl⟩
abbrev main_while0b_v114 : Ref sig .tc := ⟨.hbm, 126, rfl⟩
abbrev main_while0b_v115 : Ref sig .tc := ⟨.hbm, 127, rfl⟩
abbrev main_while0b_v116 : Ref sig .tc := ⟨.hbm, 128, rfl⟩
abbrev main_while0b_cst_26 : Ref sig .tc := ⟨.hbm, 129, rfl⟩
abbrev main_while0b_v117 : Ref sig .tc := ⟨.hbm, 130, rfl⟩
abbrev main_while0b_v118 : Ref sig .tc := ⟨.hbm, 131, rfl⟩
abbrev main_while0b_v119 : Ref sig .tc := ⟨.hbm, 132, rfl⟩
abbrev main_while0b_v120 : Ref sig .tc := ⟨.hbm, 133, rfl⟩
abbrev main_while0b_v121 : Ref sig .tc := ⟨.hbm, 134, rfl⟩
abbrev main_while0b_v122 : Ref sig .tc := ⟨.hbm, 135, rfl⟩
abbrev main_while0b_v123 : Ref sig .tc := ⟨.hbm, 136, rfl⟩
abbrev main_while0b_v124 : Ref sig .tc := ⟨.hbm, 137, rfl⟩
abbrev main_while0b_v125 : Ref sig .tc := ⟨.hbm, 138, rfl⟩
abbrev main_while0b_cst_27 : Ref sig .tc := ⟨.hbm, 139, rfl⟩
abbrev main_while0b_v126 : Ref sig .tc := ⟨.hbm, 140, rfl⟩
abbrev main_while0b_v127 : Ref sig .tc := ⟨.hbm, 141, rfl⟩
abbrev main_while0b_v128 : Ref sig .tc := ⟨.hbm, 142, rfl⟩
abbrev main_while0b_cst_28 : Ref sig .tc := ⟨.hbm, 143, rfl⟩
abbrev main_while0b_v129 : Ref sig .tc := ⟨.hbm, 144, rfl⟩
abbrev main_while0b_v130 : Ref sig .tc := ⟨.hbm, 145, rfl⟩
abbrev main_while0b_cst_29 : Ref sig .tc := ⟨.hbm, 146, rfl⟩
abbrev main_while0b_call5_v0 : Ref sig .tc := ⟨.hbm, 147, rfl⟩
abbrev main_while0b_call5_v1 : Ref sig .tc := ⟨.hbm, 148, rfl⟩
abbrev main_while0b_v131 : Ref sig .tc := ⟨.hbm, 149, rfl⟩
abbrev main_while0b_v132 : Ref sig .tc := ⟨.hbm, 150, rfl⟩
abbrev main_while0b_v133 : Ref sig .tc := ⟨.hbm, 151, rfl⟩
abbrev main_while0b_v134 : Ref sig .tc := ⟨.hbm, 152, rfl⟩
abbrev main_while0b_cst_30 : Ref sig .tc := ⟨.hbm, 153, rfl⟩
abbrev main_while0b_v135 : Ref sig .tc := ⟨.hbm, 154, rfl⟩
abbrev main_while0b_v136 : Ref sig .tc := ⟨.hbm, 155, rfl⟩
abbrev main_while0b_v137 : Ref sig .tc := ⟨.hbm, 156, rfl⟩
abbrev main_while0b_v138 : Ref sig .tc := ⟨.hbm, 157, rfl⟩
abbrev main_while0b_v139 : Ref sig .tc := ⟨.hbm, 158, rfl⟩
abbrev main_while0b_v140 : Ref sig .tc := ⟨.hbm, 159, rfl⟩
abbrev main_while0b_v141 : Ref sig .tc := ⟨.hbm, 160, rfl⟩
abbrev main_while0b_call6_v0 : Ref sig .tc := ⟨.hbm, 161, rfl⟩
abbrev main_while0b_call6_c : Ref sig .tc := ⟨.hbm, 162, rfl⟩
abbrev main_while0b_call6_c_0 : Ref sig .tc := ⟨.hbm, 163, rfl⟩
abbrev main_while0b_v142 : Ref sig .tc := ⟨.hbm, 164, rfl⟩
abbrev main_while0b_c_31 : Ref sig .tc := ⟨.hbm, 165, rfl⟩
abbrev main_while0b_v143 : Ref sig .tc := ⟨.hbm, 166, rfl⟩
abbrev main_c_8 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_c_9 : Ref sig .tc := ⟨.hbm, 171, rfl⟩
abbrev main_v72 : Ref sig .tc := ⟨.hbm, 172, rfl⟩
abbrev main_v73 : Ref sig .tc := ⟨.hbm, 173, rfl⟩
abbrev main_c_10 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_c_11 : Ref sig .tc := ⟨.hbm, 178, rfl⟩
abbrev main_v77 : Ref sig .tc := ⟨.hbm, 179, rfl⟩
abbrev main_v78 : Ref sig .tc := ⟨.hbm, 180, rfl⟩
abbrev main_c_12 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_cst_13 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_cst_14 : Ref sig .tc := ⟨.hbm, 193, rfl⟩
abbrev main_v89 : Ref sig .tc := ⟨.hbm, 194, rfl⟩
abbrev main_v90 : Ref sig .tc := ⟨.hbm, 195, rfl⟩
abbrev main_cst_15 : Ref sig .tc := ⟨.hbm, 196, rfl⟩
abbrev main_call7_v0 : Ref sig .tc := ⟨.hbm, 197, rfl⟩
abbrev main_call7_v1 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_cst_16 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩

abbrev nD : Nat := 1
abbrev τ : Topo := Topo.v7x

variable {F : FTy → Type} [FloatOps F]

abbrev main_while0_count : Scf.Loop 32 := ⟨0#32, 8192#32, 1#32⟩
-- ==== Proof.EncoderIdeal.lean ====
/- The encoder's region: what one grid point leaves, the carried row, and the region's proof data over the
   contents the region is entered with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body resets the carried row: the second grid coordinate is zero. -/
abbrev isFirst (i : grid0.Coords) : Prop := (Scalar.cmpi .ne (Scalar.extui (Scalar.cmpi .eq (BitVec.ofNat 32 (i 1).val) 0#32)) 0#32) = 1#1

/-- The reset happens at the points divisible by sixteen. -/
theorem isFirst_iff : ∀ t : Fin cfg0.N, isFirst (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [isFirst, e0, e1]
    word_cmp
   : ∀ t : Fin grid0.N, isFirst (grid0.coords t) ↔ t.val % 16 = 0)

/-- Two zero offsets. -/
theorem z2 : (![0, 0] : Fin 2 → ℕ) = fun _ => 0 := by decide
/-- Three zero offsets. -/
theorem z3 : (![0, 0, 0] : Fin 3 → ℕ) = fun _ => 0 := by decide

/-- Reading the whole of a whole buffer that holds `X` gives `X`. -/
theorem rd {sp : Space} {S : Shape} {e : EltTy} {M : Memref sig .tc sp S e} (h : M.IsWhole) {off : Fin S.rank → ℕ}
    (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

set_option maxHeartbeats 1000000 in
/-- One run of the encoder body where the carried row is reset. -/
theorem enc_first (c : Dev nD) (i : grid0.Coords) (arg2 : Memref sig .tc .vmem S1x512x4 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x5 .f32) (harg5 : arg5.IsWhole) (arg6 : Memref sig .tc .vmem S1x5 .f32) (harg6 : arg6.IsWhole) (arg7 : Memref sig .tc .vmem S1x512x5 .f32) (harg7 : arg7.IsWhole) (arg8 : Memref sig .tc .vmem S1x5 .f32) (harg8 : arg8.IsWhole) (hc0 : isFirst i)
    (x0 : Vec F S1x512x4 .f32) (x1 : Vec F S4x256 .f32) (x2 : Vec F S1x256 .f32) (x3 : Vec F S256x5 .f32) (x4 : Vec F S1x5 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay4 x0 x1 x2 x3 x4) k0_pay5) ∗ owns (c : Thread nD τ) arg8 fullShare (k0_pay3 (k0_pay4 x0 x1 x2 x3 x4) k0_pay5)) -∗ K ⟨⟩))
      ⊢ wp frame (wpE (defs₀ (F := F)) Variants.none c none) E (cc0__encoder_kernel i arg2 harg2 arg3 harg3 arg4 harg4 arg5 harg5 arg6 harg6 arg7 harg7 arg8 harg8) K := by
  simp only [cc0__encoder_kernel_eq_skeleton]; unfold cc0__encoder_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (View.cover_of_tiledL _ S1x512x5.size (by sl_kernel_rfl)), View.canon_unit_zero z3]
    sl_unfold_words
    rw [rd harg2 z3, rd harg3 z2, rd harg4 z2, rd harg5 z2, rd harg6 z2]
    have e := View.readCov_unit_zero (Val := Elt F) arg8.view z2 inb_S1x5_S1x5_0_0 (k0_pay5 (F := F))
    exact congrArg _ e
  iexists _; isplitr
  swap; · iexact HS0
  ipureintro
  rw [View.read_writes_eq_canon _ _ _ (View.cover_of_tiledL _ S1x5.size (by sl_kernel_rfl)), View.canon_cons_unit_zero z2]
  sl_unfold_words
  rw [rd harg2 z3, rd harg3 z2, rd harg4 z2, rd harg5 z2, rd harg6 z2]
  have e := View.readCov_unit_zero (Val := Elt F) arg8.view z2 inb_S1x5_S1x5_0_0 (k0_pay5 (F := F))
  exact congrArg _ e

set_option maxHeartbeats 1000000 in
/-- One run of the encoder body where the carried row is what the point before left. -/
theorem enc_next (c : Dev nD) (i : grid0.Coords) (arg2 : Memref sig .tc .vmem S1x512x4 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S256x5 .f32) (harg5 : arg5.IsWhole) (arg6 : Memref sig .tc .vmem S1x5 .f32) (harg6 : arg6.IsWhole) (arg7 : Memref sig .tc .vmem S1x512x5 .f32) (harg7 : arg7.IsWhole) (arg8 : Memref sig .tc .vmem S1x5 .f32) (harg8 : arg8.IsWhole) (hc0 : ¬isFirst i)
    (x0 : Vec F S1x512x4 .f32) (x1 : Vec F S4x256 .f32) (x2 : Vec F S1x256 .f32) (x3 : Vec F S256x5 .f32) (x4 : Vec F S1x5 .f32) (a : Vec F S1x5 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay4 x0 x1 x2 x3 x4) a) ∗ owns (c : Thread nD τ) arg8 fullShare (k0_pay3 (k0_pay4 x0 x1 x2 x3 x4) a)) -∗ K ⟨⟩))
      ⊢ wp frame (wpE (defs₀ (F := F)) Variants.none c none) E (cc0__encoder_kernel i arg2 harg2 arg3 harg3 arg4 harg4 arg5 harg5 arg6 harg6 arg7 harg7 arg8 harg8) K := by
  simp only [cc0__encoder_kernel_eq_skeleton]; unfold cc0__encoder_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (View.cover_of_tiledL _ S1x512x5.size (by sl_kernel_rfl)), View.canon_unit_zero z3]
    sl_unfold_words
    rw [rd harg2 z3, rd harg3 z2, rd harg4 z2, rd harg5 z2, rd harg6 z2, rd harg8 z2]
  iexists _; isplitr
  swap; · iexact HS0
  ipureintro
  rw [View.read_writes_eq_canon _ _ _ (View.cover_of_tiledL _ S1x5.size (by sl_kernel_rfl)), View.canon_unit_zero z2]
  sl_unfold_words
  rw [rd harg2 z3, rd harg3 z2, rd harg4 z2, rd harg5 z2, rd harg6 z2, rd harg8 z2]

/-! ## The region's proof data, over the contents it is entered with -/

variable (W : Dev nD → Valuation τ sig (Elt F))

/-- Window `w`'s block at point `t`, read off its array as the region finds it. -/
def encBlk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The prefix sums of the emission scores inside one block of rows. -/
def encScan (c : Dev nD) (t : Fin cfg0.N) : FVec F S512x5 .f32 :=
  k0_pay4 (encBlk W c 0 t) (encBlk W c 1 t) (encBlk W c 2 t) (encBlk W c 3 t) (encBlk W c 4 t)

/-- The carried row the body adds at position `n`: zero at the head of each sequence, otherwise the last row of
    what the point before stored. -/
def encCarry (c : Dev nD) : (n : ℕ) → n < cfg0.N → FVec F S1x5 .f32
  | 0, _ => k0_pay5
  | n + 1, hn => if (n + 1) % 16 = 0 then k0_pay5 else k0_pay3 (encScan W c ⟨n, Nat.lt_of_succ_lt hn⟩) (encCarry c n (Nat.lt_of_succ_lt hn))

/-- At a sequence's first block the carried row is zero. -/
theorem encCarry_first (c : Dev nD) (t : Fin cfg0.N) (h : t.val % 16 = 0) : encCarry W c t.val t.isLt = k0_pay5 := by
  obtain ⟨n, hn⟩ := t
  cases n with
  | zero => rfl
  | succ n => exact if_pos h

/-- At a later block the carried row is what the block before left. -/
theorem encCarry_next (c : Dev nD) (t : Fin cfg0.N) (h : ¬t.val % 16 = 0) (hp : t.val - 1 < cfg0.N) :
    encCarry W c t.val t.isLt = k0_pay3 (encScan W c ⟨t.val - 1, hp⟩) (encCarry W c (t.val - 1) hp) := by
  obtain ⟨n, hn⟩ := t
  cases n with
  | zero => exact absurd (Nat.zero_mod _) h
  | succ n => exact if_neg h

/-- The block the body stores at point `t`. -/
def encOut (c : Dev nD) (t : Fin cfg0.N) : FVec F S1x512x5 .f32 := k0_pay2 (encScan W c t) (encCarry W c t.val t.isLt)

/-- The row the body leaves for the next point. -/
def encLeft (c : Dev nD) (t : Fin cfg0.N) : FVec F S1x5 .f32 := k0_pay3 (encScan W c t) (encCarry W c t.val t.isLt)

/-- The scratch row. -/
abbrev accM : Memref sig .tc .vmem S1x5 .f32 := Memref.whole cc0_scratch0

/-- The other region's staging buffers, at anything: the part of the scoped rest the encoder never touches. -/
def encRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- Before the first step the scratch row may hold anything. -/
theorem encPhiA (c : Dev nD) :
    (Pipeline.ΦA spec0 c : sProp 𝕄)
      = iprop(((∃ d, owns (c : Thread nD τ) accM fullShare d) ∗ encRest c) ∗ (∃ r, prngReg c r)) := by
  unfold Pipeline.ΦA encRest; rw [scopedRest0_eq]; simp only [accM, owns_whole]; try rfl

/-- The invariant before position `n`: the scratch row at anything first, then at what the point before left. -/
def encPhi (c : Dev nD) : (n : ℕ) → n ≤ cfg0.N → sProp 𝕄
  | 0, _ => Pipeline.ΦA spec0 c
  | n + 1, hn => iprop((owns (c : Thread nD τ) accM fullShare (encLeft W c ⟨n, hn⟩) ∗ encRest c) ∗ (∃ r, prngReg c r))

/-- Before a later step the scratch row holds what the step before left. -/
theorem encPhi_pos (c : Dev nD) (n : ℕ) (h : n ≤ cfg0.N) (hz : n ≠ 0) :
    encPhi W c n h = iprop((owns (c : Thread nD τ) accM fullShare (encLeft W c ⟨n - 1, by omega⟩) ∗ encRest c) ∗ (∃ r, prngReg c r)) := by
  cases n with
  | zero => exact absurd rfl hz
  | succ n => rfl

/-- The invariant at any position gives the scratch row at some contents. -/
theorem encPhi_any (c : Dev nD) (n : ℕ) (h : n ≤ cfg0.N) : encPhi W c n h ⊢ Pipeline.ΦA spec0 c := by
  cases n with
  | zero => exact .rfl
  | succ n =>
    rw [encPhiA]; unfold encPhi
    iintro ⟨⟨HS0, HR⟩, Hg⟩
    isplitl [HS0 HR]
    · isplitl [HS0]
      · iexists _; iexact HS0
      iexact HR
    iexact Hg

/-- The proof data of the encoder's pipeline on core `c`. -/
def encDat (c : Dev nD) : Dat τ (Elt F) Unit ℕ (UR sig nD τ) ℕ cfg0 c where
  A w := W c (Proc.devRef .tc (Pipeline.arrRef spec0 w))
  after w t := match w with
    | ⟨0, _⟩ => encBlk W c 0 t
    | ⟨1, _⟩ => encBlk W c 1 t
    | ⟨2, _⟩ => encBlk W c 2 t
    | ⟨3, _⟩ => encBlk W c 3 t
    | ⟨4, _⟩ => encBlk W c 4 t
    | ⟨5, _⟩ => encOut W c t
  Φ t := encPhi W c t.val (Nat.le_of_lt_succ t.isLt)
  q _ := fullShare
  owed _ := 0

/-- The first launch's arrays begin with what the host's buffers hold. -/
theorem encDat_A (c : Dev nD) (w : Fin cfg0.W) : (encDat W c).A w = W c (Proc.devRef .tc (Pipeline.arrRef spec0 w)) := by
  dsimp only [encDat]
/-- What is known of the scratch row before a step. -/
theorem encDat_Phi (c : Dev nD) (t : Fin cfg0.N) : (encDat W c).Φ t.castSucc = encPhi W c t.val (Nat.le_of_lt t.isLt) := by
  dsimp only [encDat]; exact Pipeline.Dat.Φ_castSucc (encPhi W c) t
/-- What the first launch's first window holds after a step. -/
theorem encAfter0 (c : Dev nD) (t : Fin cfg0.N) : (encDat W c).after 0 t = encBlk W c 0 t := by dsimp only [encDat]
/-- What the first launch's second window holds after a step. -/
theorem encAfter1 (c : Dev nD) (t : Fin cfg0.N) : (encDat W c).after 1 t = encBlk W c 1 t := by dsimp only [encDat]
/-- What the first launch's third window holds after a step. -/
theorem encAfter2 (c : Dev nD) (t : Fin cfg0.N) : (encDat W c).after 2 t = encBlk W c 2 t := by dsimp only [encDat]
/-- What the first launch's fourth window holds after a step. -/
theorem encAfter3 (c : Dev nD) (t : Fin cfg0.N) : (encDat W c).after 3 t = encBlk W c 3 t := by dsimp only [encDat]
/-- What the first launch's fifth window holds after a step. -/
theorem encAfter4 (c : Dev nD) (t : Fin cfg0.N) : (encDat W c).after 4 t = encBlk W c 4 t := by dsimp only [encDat]
/-- What the first launch's sixth window holds after a step. -/
theorem encAfter5 (c : Dev nD) (t : Fin cfg0.N) : (encDat W c).after 5 t = encOut W c t := by dsimp only [encDat]

/-- An input window's staging buffer holds its block at every point, whether fetched there or kept. -/
theorem encBefore0 (c : Dev nD) (t : Fin cfg0.N) (d) : (encDat W c).before 0 t d = encBlk W c 0 t :=
  ((encDat W c).before_in_eq_fetched 0 rfl (fun _ => rfl) (fun _ _ _ => rfl) (fun t => by rw [encAfter0]; unfold Dat.blockOf encBlk; rw [encDat_A]; try rfl) t d).trans
    (by unfold Dat.fetched Dat.blockOf encBlk; rw [encDat_A]; try rfl)
/-- The first launch's second window holds its block before a step. -/
theorem encBefore1 (c : Dev nD) (t : Fin cfg0.N) (d) : (encDat W c).before 1 t d = encBlk W c 1 t :=
  ((encDat W c).before_in_eq_fetched 1 rfl (fun _ => rfl) (fun _ _ _ => rfl) (fun t => by rw [encAfter1]; unfold Dat.blockOf encBlk; rw [encDat_A]; try rfl) t d).trans
    (by unfold Dat.fetched Dat.blockOf encBlk; rw [encDat_A]; try rfl)
/-- The first launch's third window holds its block before a step. -/
theorem encBefore2 (c : Dev nD) (t : Fin cfg0.N) (d) : (encDat W c).before 2 t d = encBlk W c 2 t :=
  ((encDat W c).before_in_eq_fetched 2 rfl (fun _ => rfl) (fun _ _ _ => rfl) (fun t => by rw [encAfter2]; unfold Dat.blockOf encBlk; rw [encDat_A]; try rfl) t d).trans
    (by unfold Dat.fetched Dat.blockOf encBlk; rw [encDat_A]; try rfl)
/-- The first launch's fourth window holds its block before a step. -/
theorem encBefore3 (c : Dev nD) (t : Fin cfg0.N) (d) : (encDat W c).before 3 t d = encBlk W c 3 t :=
  ((encDat W c).before_in_eq_fetched 3 rfl (fun _ => rfl) (fun _ _ _ => rfl) (fun t => by rw [encAfter3]; unfold Dat.blockOf encBlk; rw [encDat_A]; try rfl) t d).trans
    (by unfold Dat.fetched Dat.blockOf encBlk; rw [encDat_A]; try rfl)
/-- The first launch's fifth window holds its block before a step. -/
theorem encBefore4 (c : Dev nD) (t : Fin cfg0.N) (d) : (encDat W c).before 4 t d = encBlk W c 4 t :=
  ((encDat W c).before_in_eq_fetched 4 rfl (fun _ => rfl) (fun _ _ _ => rfl) (fun t => by rw [encAfter4]; unfold Dat.blockOf encBlk; rw [encDat_A]; try rfl) t d).trans
    (by unfold Dat.fetched Dat.blockOf encBlk; rw [encDat_A]; try rfl)

/-! ## The body obligation -/

/-- Window `w`'s current staging memref at point `t`. -/
abbrev est0 (t : Fin cfg0.N) : Memref sig .tc .vmem S1x512x4 .f32 := win0_0.stage (cfg0.slots t 0)
/-- The buffer in which the first launch stages its second window. -/
abbrev est1 (t : Fin cfg0.N) : Memref sig .tc .vmem S4x256 .f32 := win0_1.stage (cfg0.slots t 1)
/-- The buffer in which the first launch stages its third window. -/
abbrev est2 (t : Fin cfg0.N) : Memref sig .tc .vmem S1x256 .f32 := win0_2.stage (cfg0.slots t 2)
/-- The buffer in which the first launch stages its fourth window. -/
abbrev est3 (t : Fin cfg0.N) : Memref sig .tc .vmem S256x5 .f32 := win0_3.stage (cfg0.slots t 3)
/-- The buffer in which the first launch stages its fifth window. -/
abbrev est4 (t : Fin cfg0.N) : Memref sig .tc .vmem S1x5 .f32 := win0_4.stage (cfg0.slots t 4)
/-- The buffer in which the first launch stages its sixth window. -/
abbrev est5 (t : Fin cfg0.N) : Memref sig .tc .vmem S1x512x5 .f32 := win0_5.stage (cfg0.slots t 5)

/-- What the body is called with at point `t`. -/
def encPre (c : Dev nD) (t : Fin cfg0.N) : sProp 𝕄 :=
  iprop((encDat W c).Φ t.castSucc ∗ (encDat W c).owesAt () t.castSucc
    ∗ (∃ d, owns (c : Thread nD τ) (est0 t) fullShare ((encDat W c).before 0 t d))
    ∗ (∃ d, owns (c : Thread nD τ) (est1 t) fullShare ((encDat W c).before 1 t d))
    ∗ (∃ d, owns (c : Thread nD τ) (est2 t) fullShare ((encDat W c).before 2 t d))
    ∗ (∃ d, owns (c : Thread nD τ) (est3 t) fullShare ((encDat W c).before 3 t d))
    ∗ (∃ d, owns (c : Thread nD τ) (est4 t) fullShare ((encDat W c).before 4 t d))
    ∗ (∃ d, owns (c : Thread nD τ) (est5 t) fullShare ((encDat W c).before 5 t d)))

/-- What the body returns at point `t`. -/
def encPost (c : Dev nD) (t : Fin cfg0.N) : sProp 𝕄 :=
  iprop((encDat W c).Φ t.succ ∗ (encDat W c).owesAt () t.succ
    ∗ owns (c : Thread nD τ) (est0 t) fullShare ((encDat W c).after 0 t)
    ∗ owns (c : Thread nD τ) (est1 t) fullShare ((encDat W c).after 1 t)
    ∗ owns (c : Thread nD τ) (est2 t) fullShare ((encDat W c).after 2 t)
    ∗ owns (c : Thread nD τ) (est3 t) fullShare ((encDat W c).after 3 t)
    ∗ owns (c : Thread nD τ) (est4 t) fullShare ((encDat W c).after 4 t)
    ∗ owns (c : Thread nD τ) (est5 t) fullShare ((encDat W c).after 5 t))

set_option maxHeartbeats 3200000 in
/-- The body's triple at any point. -/
theorem enc_body (c : Dev nD) (t : Fin cfg0.N) :
    encPre W c t ⊢ wp frame (wpE (defs₀ (F := F)) Variants.none c none) Set.univ (bodyAt0 t) (fun _ => encPost W c t) := by
  unfold encPre encPost bodyAt0
  simp only [encBefore0, encBefore1, encBefore2, encBefore3, encBefore4]
  rw [show (encDat W c).owesAt () t.succ = (encDat W c).owesAt () t.castSucc from rfl,
    encAfter0, encAfter1, encAfter2, encAfter3, encAfter4, encAfter5,
    show (encDat W c).Φ t.succ = iprop((owns (c : Thread nD τ) accM fullShare (encLeft W c t) ∗ encRest c) ∗ (∃ r, prngReg c r)) from rfl,
    encDat_Phi W c t]
  have hN : t.val < 128 := lt_of_lt_of_eq t.isLt (show cfg0.N = 128 from N_0)
  by_cases h0 : t.val % 16 = 0
  · rw [show encOut W c t = k0_pay2 (k0_pay4 (encBlk W c 0 t) (encBlk W c 1 t) (encBlk W c 2 t) (encBlk W c 3 t) (encBlk W c 4 t)) k0_pay5 from by
        unfold encOut encScan; rw [encCarry_first W c t h0],
      show encLeft W c t = k0_pay3 (k0_pay4 (encBlk W c 0 t) (encBlk W c 1 t) (encBlk W c 2 t) (encBlk W c 3 t) (encBlk W c 4 t)) k0_pay5 from by
        unfold encLeft encScan; rw [encCarry_first W c t h0]]
    refine (BI.Laws.sep_mono (encPhi_any W c _ _) .rfl).trans ?_
    rw [encPhiA]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (enc_first c (grid0.coords t) _ _ _ _ _ _ _ _ _ _ _ _ _ _ ((isFirst_iff t).mpr h0) (encBlk W c 0 t) (encBlk W c 1 t) (encBlk W c 2 t) (encBlk W c 3 t) (encBlk W c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hp : t.val - 1 < cfg0.N := Nat.lt_of_le_of_lt (Nat.sub_le _ _) t.isLt
    have hz : t.val ≠ 0 := fun h => h0 (by rw [h])
    rw [show encOut W c t = k0_pay2 (k0_pay4 (encBlk W c 0 t) (encBlk W c 1 t) (encBlk W c 2 t) (encBlk W c 3 t) (encBlk W c 4 t)) (encLeft W c ⟨t.val - 1, hp⟩) from by
        unfold encOut; rw [encCarry_next W c t h0 hp]; rfl,
      show encLeft W c t = k0_pay3 (k0_pay4 (encBlk W c 0 t) (encBlk W c 1 t) (encBlk W c 2 t) (encBlk W c 3 t) (encBlk W c 4 t)) (encLeft W c ⟨t.val - 1, hp⟩) from by
        conv_lhs => unfold encLeft
        rw [encCarry_next W c t h0 hp]; rfl,
      encPhi_pos W c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (enc_next c (grid0.coords t) _ _ _ _ _ _ _ _ _ _ _ _ _ _ (fun h => h0 ((isFirst_iff t).mp h)) (encBlk W c 0 t) (encBlk W c 1 t) (encBlk W c 2 t) (encBlk W c 3 t) (encBlk W c 4 t) (encLeft W c ⟨t.val - 1, hp⟩) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation for the encoder, at every point. -/
theorem enc_obligation (c : Dev nD) : BodyObligation (encDat W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (enc_body W c t) rfl .rfl fun _ => .rfl

/-- The first launch starts from a scratch row that may hold anything. -/
theorem enc_in (c : Dev nD) : Pipeline.ΦA spec0 c ⊢ (encDat W c).Φ 0 := .rfl

/-- The first launch gives its scratch row back, whatever it holds. -/
theorem enc_out (c : Dev nD) : (encDat W c).Φ (Fin.last cfg0.N) ⊢ Pipeline.ΦA spec0 c := by
  dsimp only [encDat]; exact encPhi_any W c _ _

end Cert.KernelIdeal.Own

end
-- ==== Proof.DpIdeal.lean ====
/- The recursion's region: one trip of its loop as a function of the carried values, what the body stores, and the
   region's proof data over the contents the region is entered with. -/
module

public import proofs.«01_k».proof.Proof.EncoderIdeal
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the loop carries: five score tables and five picked rows. -/
abbrev DpState (F : FTy → Type) [FloatOps F] : Type := FVec F S16x40 .f32 × FVec F S16x40 .f32 × FVec F S16x40 .f32 × FVec F S16x40 .f32 × FVec F S16x40 .f32 × FVec F S1x40 .f32 × FVec F S1x40 .f32 × FVec F S1x40 .f32 × FVec F S1x40 .f32 × FVec F S1x40 .f32

/-- Rotation `r`'s duration table. -/
def durTab (x1 : Vec F S5x16x40 .f32) : Fin 5 → FVec F S16x40 .f32
  | 0 => k1_pay39 (View.ld x1 (Rect.unit (s := S5x16x40) ![0, 0, 0] S1x16x40.size inb_S5x16x40_S1x16x40_0_0_0))
  | 1 => k1_pay40 (View.ld x1 (Rect.unit (s := S5x16x40) ![1, 0, 0] S1x16x40.size inb_S5x16x40_S1x16x40_1_0_0))
  | 2 => k1_pay41 (View.ld x1 (Rect.unit (s := S5x16x40) ![2, 0, 0] S1x16x40.size inb_S5x16x40_S1x16x40_2_0_0))
  | 3 => k1_pay42 (View.ld x1 (Rect.unit (s := S5x16x40) ![3, 0, 0] S1x16x40.size inb_S5x16x40_S1x16x40_3_0_0))
  | 4 => k1_pay43 (View.ld x1 (Rect.unit (s := S5x16x40) ![4, 0, 0] S1x16x40.size inb_S5x16x40_S1x16x40_4_0_0))

/-- Rotation `r`'s transition table. -/
def cfTab (x2 : Vec F S5x5x40 .f32) : Fin 5 → FVec F S5x40 .f32
  | 0 => k1_pay44 (View.ld x2 (Rect.unit (s := S5x5x40) ![0, 0, 0] S1x5x40.size inb_S5x5x40_S1x5x40_0_0_0))
  | 1 => k1_pay45 (View.ld x2 (Rect.unit (s := S5x5x40) ![1, 0, 0] S1x5x40.size inb_S5x5x40_S1x5x40_1_0_0))
  | 2 => k1_pay46 (View.ld x2 (Rect.unit (s := S5x5x40) ![2, 0, 0] S1x5x40.size inb_S5x5x40_S1x5x40_2_0_0))
  | 3 => k1_pay47 (View.ld x2 (Rect.unit (s := S5x5x40) ![3, 0, 0] S1x5x40.size inb_S5x5x40_S1x5x40_3_0_0))
  | 4 => k1_pay48 (View.ld x2 (Rect.unit (s := S5x5x40) ![4, 0, 0] S1x5x40.size inb_S5x5x40_S1x5x40_4_0_0))

/-- The lengths, one per lane. -/
def lenRow (x4 : Vec F S1x40 .i32) : IVec S1x40 32 := k1_pay49 (F := F) (View.ld x4 (Rect.unit (s := S1x40) ![0, 0] S1x40.size inb_S1x40_S1x40_0_0))

/-- What the loop starts from. -/
def dpInit (x3 : Vec F S5x40 .f32) : DpState F :=
  (k1_pay1 k1_pay50 (k1_pay51 (View.ld x3 (Rect.unit (s := S5x40) ![0, 0] S1x40.size inb_S5x40_S1x40_0_0))),
   k1_pay2 k1_pay50 (View.ld x3 (Rect.unit (s := S5x40) ![1, 0] S1x40.size inb_S5x40_S1x40_1_0)),
   k1_pay3 k1_pay50 (View.ld x3 (Rect.unit (s := S5x40) ![2, 0] S1x40.size inb_S5x40_S1x40_2_0)),
   k1_pay4 k1_pay50 (View.ld x3 (Rect.unit (s := S5x40) ![3, 0] S1x40.size inb_S5x40_S1x40_3_0)),
   k1_pay5 k1_pay50 (View.ld x3 (Rect.unit (s := S5x40) ![4, 0] S1x40.size inb_S5x40_S1x40_4_0)),
   k1_pay6, k1_pay7, k1_pay8, k1_pay9, k1_pay10)

/-- Trip `k`'s row of cumulative scores in rotation `r`. -/
def curLd (x0 : Vec F S5x8209x40 .f32) (k : Fin k1_t1_loop.trips) : Fin 5 → Vec F S1x1x40 .f32
  | 0 => View.ld x0 (Rect.unit (s := S5x8209x40) (k1_off1 k) S1x1x40.size (k1_off1_inb k))
  | 1 => View.ld x0 (Rect.unit (s := S5x8209x40) (k1_off2 k) S1x1x40.size (k1_off2_inb k))
  | 2 => View.ld x0 (Rect.unit (s := S5x8209x40) (k1_off3 k) S1x1x40.size (k1_off3_inb k))
  | 3 => View.ld x0 (Rect.unit (s := S5x8209x40) (k1_off4 k) S1x1x40.size (k1_off4_inb k))
  | 4 => View.ld x0 (Rect.unit (s := S5x8209x40) (k1_off5 k) S1x1x40.size (k1_off5_inb k))

/-- One trip: the five new alphas from the tables, then the tables and the picked rows they lead to. `u` are the
    rows of cumulative scores, `D` and `M` the duration and transition tables, `ln` the lengths, `i` the step. -/
def dpTrip (u : Fin 5 → Vec F S1x1x40 .f32) (D : Fin 5 → FVec F S16x40 .f32) (M : Fin 5 → FVec F S5x40 .f32) (ln : IVec S1x40 32)
    (i : BitVec 32) : DpState F → DpState F
  | (g0, g1, g2, g3, g4, p0, p1, p2, p3, p4) =>
    (k1_pay27 g0 (k1_pay13 (u 0)) (k1_pay25 (D 3) (D 4) (M 0) g3 g4 (k1_pay14 (D 0) g0 (u 0)) (k1_pay16 (D 1) g1 (u 1)) (k1_pay17 (u 2)) (k1_pay18 (D 2) g2) (u 3) (u 4))
        (k1_pay26 (D 3) (D 4) (M 0) g3 g4 (k1_pay14 (D 0) g0 (u 0)) (k1_pay16 (D 1) g1 (u 1)) (k1_pay17 (u 2)) (k1_pay18 (D 2) g2) (u 3) (u 4)),
     k1_pay29 (M 1) g1 (k1_pay14 (D 0) g0 (u 0)) (k1_pay15 (u 1)) (k1_pay16 (D 1) g1 (u 1)) (k1_pay19 (k1_pay17 (u 2)) (k1_pay18 (D 2) g2)) (k1_pay21 (D 3) g3 (u 3)) (k1_pay23 (D 4) g4 (u 4)),
     k1_pay33 (k1_pay17 (u 2)) (k1_pay31 (M 2) (k1_pay14 (D 0) g0 (u 0)) (k1_pay16 (D 1) g1 (u 1)) (k1_pay19 (k1_pay17 (u 2)) (k1_pay18 (D 2) g2)) (k1_pay21 (D 3) g3 (u 3)) (k1_pay23 (D 4) g4 (u 4))) (k1_pay32 g2),
     k1_pay35 (M 3) g3 (k1_pay14 (D 0) g0 (u 0)) (k1_pay16 (D 1) g1 (u 1)) (k1_pay19 (k1_pay17 (u 2)) (k1_pay18 (D 2) g2)) (k1_pay20 (u 3)) (k1_pay21 (D 3) g3 (u 3)) (k1_pay23 (D 4) g4 (u 4)),
     k1_pay37 (M 4) g4 (k1_pay14 (D 0) g0 (u 0)) (k1_pay16 (D 1) g1 (u 1)) (k1_pay19 (k1_pay17 (u 2)) (k1_pay18 (D 2) g2)) (k1_pay21 (D 3) g3 (u 3)) (k1_pay22 (u 4)) (k1_pay23 (D 4) g4 (u 4)),
     k1_pay28 ln p0 i (k1_pay14 (D 0) g0 (u 0)),
     k1_pay30 ln p1 i (k1_pay16 (D 1) g1 (u 1)),
     k1_pay34 ln p2 i (k1_pay19 (k1_pay17 (u 2)) (k1_pay18 (D 2) g2)),
     k1_pay36 ln p3 i (k1_pay21 (D 3) g3 (u 3)),
     k1_pay11 p4 (k1_pay23 (D 4) g4 (u 4)) (k1_pay38 ln i))

/-- What the loop carries before trip `k`. -/
def dpSt (x0 : Vec F S5x8209x40 .f32) (x1 : Vec F S5x16x40 .f32) (x2 : Vec F S5x5x40 .f32) (x3 : Vec F S5x40 .f32) (x4 : Vec F S1x40 .i32) : ℕ → DpState F
  | 0 => dpInit x3
  | k + 1 => if h : k < k1_t1_loop.trips then dpTrip (curLd x0 ⟨k, h⟩) (durTab x1) (cfTab x2) (lenRow (F := F) x4) (Scf.iv 1#32 1#32 k) (dpSt x0 x1 x2 x3 x4 k) else dpSt x0 x1 x2 x3 x4 k

/-- The row the body stores after the loop. -/
def dpRow (s : DpState F) : FVec F S1x40 .f32 := k1_pay12 s.2.2.2.2.2.1 s.2.2.2.2.2.2.1 s.2.2.2.2.2.2.2.1 s.2.2.2.2.2.2.2.2.1 s.2.2.2.2.2.2.2.2.2

set_option maxHeartbeats 1000000 in
/-- The trip the loop's invariant carries is `dpTrip`. -/
theorem trip_eq (c : Dev nD) (arg0 : Memref sig .tc .vmem S5x8209x40 .f32) (harg0 : arg0.IsWhole) (arg1 : Memref sig .tc .vmem S5x16x40 .f32) (harg1 : arg1.IsWhole) (arg2 : Memref sig .tc .vmem S5x5x40 .f32) (harg2 : arg2.IsWhole) (arg3 : Memref sig .tc .vmem S5x40 .f32) (harg3 : arg3.IsWhole) (arg4 : Memref sig .tc .vmem S1x40 .i32) (harg4 : arg4.IsWhole) (arg5 : Memref sig .tc .vmem S1x40 .f32) (harg5 : arg5.IsWhole) (x0 : Vec F S5x8209x40 .f32) (x1 : Vec F S5x16x40 .f32) (x2 : Vec F S5x5x40 .f32) (x3 : Vec F S5x40 .f32) (x4 : Vec F S1x40 .i32) (k : Fin k1_t1_loop.trips) (acc : DpState F) :
    tripR_k1_t1 (F := F) Variants.none c none arg0 harg0 arg1 harg1 arg2 harg2 arg3 harg3 arg4 harg4 arg5 harg5 (durTab x1 0) (durTab x1 1) (durTab x1 2) (durTab x1 3) (durTab x1 4) (cfTab x2 0) (cfTab x2 1) (cfTab x2 2) (cfTab x2 3) (cfTab x2 4) (lenRow (F := F) x4) (harg0.unread x0) k acc
      = dpTrip (curLd x0 k) (durTab x1) (cfTab x2) (lenRow (F := F) x4) (Scf.iv 1#32 1#32 k) acc := by
  unfold tripR_k1_t1 trip_k1_t1
  dsimp only
  sl_unfold_words
  simp only [View.readAt_eq_ld, harg0.read_unread]
  rfl

/-- The loop's carried value before every trip is `dpSt`. -/
theorem st_eq (c : Dev nD) (arg0 : Memref sig .tc .vmem S5x8209x40 .f32) (harg0 : arg0.IsWhole) (arg1 : Memref sig .tc .vmem S5x16x40 .f32) (harg1 : arg1.IsWhole) (arg2 : Memref sig .tc .vmem S5x5x40 .f32) (harg2 : arg2.IsWhole) (arg3 : Memref sig .tc .vmem S5x40 .f32) (harg3 : arg3.IsWhole) (arg4 : Memref sig .tc .vmem S1x40 .i32) (harg4 : arg4.IsWhole) (arg5 : Memref sig .tc .vmem S1x40 .f32) (harg5 : arg5.IsWhole) (x0 : Vec F S5x8209x40 .f32) (x1 : Vec F S5x16x40 .f32) (x2 : Vec F S5x5x40 .f32) (x3 : Vec F S5x40 .f32) (x4 : Vec F S1x40 .i32) (k : ℕ) (hk : k ≤ k1_t1_loop.trips) :
    st_k1_t1 (F := F) Variants.none c none arg0 harg0 arg1 harg1 arg2 harg2 arg3 harg3 arg4 harg4 arg5 harg5 (durTab x1 0) (durTab x1 1) (durTab x1 2) (durTab x1 3) (durTab x1 4) (cfTab x2 0) (cfTab x2 1) (cfTab x2 2) (cfTab x2 3) (cfTab x2 4) (lenRow (F := F) x4) (harg0.unread x0) (dpInit x3) k = dpSt x0 x1 x2 x3 x4 k := by
  induction k with
  | zero => rfl
  | succ k ih =>
    have h : k < k1_t1_loop.trips := hk
    rw [st_k1_t1_succ (F := F) Variants.none c none arg0 harg0 arg1 harg1 arg2 harg2 arg3 harg3 arg4 harg4 arg5 harg5 (durTab x1 0) (durTab x1 1) (durTab x1 2) (durTab x1 3) (durTab x1 4) (cfTab x2 0) (cfTab x2 1) (cfTab x2 2) (cfTab x2 3) (cfTab x2 4) (lenRow (F := F) x4) (harg0.unread x0) (dpInit x3) ⟨k, h⟩]
    rw [trip_eq c arg0 harg0 arg1 harg1 arg2 harg2 arg3 harg3 arg4 harg4 arg5 harg5 x0 x1 x2 x3 x4 ⟨k, h⟩, dpSt, dif_pos h, ih (Nat.le_of_lt h)]

set_option maxHeartbeats 1000000 in
/-- One run of the recursion's body: the stored row is `dpRow` of the state after the loop. -/
theorem dp_run (c : Dev nD) (arg0 : Memref sig .tc .vmem S5x8209x40 .f32) (harg0 : arg0.IsWhole) (arg1 : Memref sig .tc .vmem S5x16x40 .f32) (harg1 : arg1.IsWhole) (arg2 : Memref sig .tc .vmem S5x5x40 .f32) (harg2 : arg2.IsWhole) (arg3 : Memref sig .tc .vmem S5x40 .f32) (harg3 : arg3.IsWhole) (arg4 : Memref sig .tc .vmem S1x40 .i32) (harg4 : arg4.IsWhole) (arg5 : Memref sig .tc .vmem S1x40 .f32) (harg5 : arg5.IsWhole) (x0 : Vec F S5x8209x40 .f32) (x1 : Vec F S5x16x40 .f32) (x2 : Vec F S5x5x40 .f32) (x3 : Vec F S5x40 .f32) (x4 : Vec F S1x40 .i32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (dpRow (dpSt x0 x1 x2 x3 x4 8192))) -∗ K ⟨⟩))
      ⊢ wp frame (wpE (defs₀ (F := F)) Variants.none c none) E (cc1__dp_kernel arg0 harg0 arg1 harg1 arg2 harg2 arg3 harg3 arg4 harg4 arg5 harg5) K := by
  simp only [cc1__dp_kernel_eq_skeleton]; unfold cc1__dp_kernel_skel
  simp only [k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg0.eq_unread hf0; obtain rfl := harg1.eq_unread hf1; obtain rfl := harg2.eq_unread hf2; obtain rfl := harg3.eq_unread hf3; obtain rfl := harg4.eq_unread hf4
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (View.cover_of_tiledL _ S1x40.size (by sl_kernel_rfl)), View.canon_unit_zero z2]
  sl_unfold_words
  simp only [View.readAt_eq_ld, harg1.read_unread, harg2.read_unread, harg3.read_unread, harg4.read_unread]
  have e := st_eq (F := F) c arg0 harg0 arg1 harg1 arg2 harg2 arg3 harg3 arg4 harg4 arg5 harg5 x0 x1 x2 x3 x4 8192 (by decide)
  exact congrArg dpRow e

/-! ## The region's proof data, over the contents it is entered with -/

variable (W : Dev nD → Valuation τ sig (Elt F))

/-- Window `w`'s block at the one point, read off its array as the region finds it. -/
def dpBlk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The row the body stores. -/
def dpOut (c : Dev nD) (t : Fin cfg1.N) : FVec F S1x40 .f32 :=
  dpRow (dpSt (dpBlk W c 0 t) (dpBlk W c 1 t) (dpBlk W c 2 t) (dpBlk W c 3 t) (dpBlk W c 4 t) 8192)

/-- The proof data of the recursion's pipeline on core `c`. -/
def dpDat (c : Dev nD) : Dat τ (Elt F) Unit ℕ (UR sig nD τ) ℕ cfg1 c where
  A w := W c (Proc.devRef .tc (Pipeline.arrRef spec1 w))
  after w t := match w with
    | ⟨0, _⟩ => dpBlk W c 0 t
    | ⟨1, _⟩ => dpBlk W c 1 t
    | ⟨2, _⟩ => dpBlk W c 2 t
    | ⟨3, _⟩ => dpBlk W c 3 t
    | ⟨4, _⟩ => dpBlk W c 4 t
    | ⟨5, _⟩ => dpOut W c t
  Φ _ := Pipeline.ΦA spec1 c
  q _ := fullShare
  owed _ := 0

/-- The second launch's arrays begin with what the host's buffers hold. -/
theorem dpDat_A (c : Dev nD) (w : Fin cfg1.W) : (dpDat W c).A w = W c (Proc.devRef .tc (Pipeline.arrRef spec1 w)) := by
  dsimp only [dpDat]
/-- What the second launch's first window holds after a step. -/
theorem dpAfter0 (c : Dev nD) (t : Fin cfg1.N) : (dpDat W c).after 0 t = dpBlk W c 0 t := by dsimp only [dpDat]
/-- What the second launch's second window holds after a step. -/
theorem dpAfter1 (c : Dev nD) (t : Fin cfg1.N) : (dpDat W c).after 1 t = dpBlk W c 1 t := by dsimp only [dpDat]
/-- What the second launch's third window holds after a step. -/
theorem dpAfter2 (c : Dev nD) (t : Fin cfg1.N) : (dpDat W c).after 2 t = dpBlk W c 2 t := by dsimp only [dpDat]
/-- What the second launch's fourth window holds after a step. -/
theorem dpAfter3 (c : Dev nD) (t : Fin cfg1.N) : (dpDat W c).after 3 t = dpBlk W c 3 t := by dsimp only [dpDat]
/-- What the second launch's fifth window holds after a step. -/
theorem dpAfter4 (c : Dev nD) (t : Fin cfg1.N) : (dpDat W c).after 4 t = dpBlk W c 4 t := by dsimp only [dpDat]
/-- What the second launch's sixth window holds after a step. -/
theorem dpAfter5 (c : Dev nD) (t : Fin cfg1.N) : (dpDat W c).after 5 t = dpOut W c t := by dsimp only [dpDat]

/-- An input window's staging buffer holds its block at every point, whether fetched there or kept. -/
theorem dpBefore0 (c : Dev nD) (t : Fin cfg1.N) (d) : (dpDat W c).before 0 t d = dpBlk W c 0 t :=
  ((dpDat W c).before_in_eq_fetched 0 rfl (fun _ => rfl) (fun _ _ _ => rfl) (fun t => by rw [dpAfter0]; unfold Dat.blockOf dpBlk; rw [dpDat_A]; try rfl) t d).trans
    (by unfold Dat.fetched Dat.blockOf dpBlk; rw [dpDat_A]; try rfl)
/-- The second launch's second window holds its block before a step. -/
theorem dpBefore1 (c : Dev nD) (t : Fin cfg1.N) (d) : (dpDat W c).before 1 t d = dpBlk W c 1 t :=
  ((dpDat W c).before_in_eq_fetched 1 rfl (fun _ => rfl) (fun _ _ _ => rfl) (fun t => by rw [dpAfter1]; unfold Dat.blockOf dpBlk; rw [dpDat_A]; try rfl) t d).trans
    (by unfold Dat.fetched Dat.blockOf dpBlk; rw [dpDat_A]; try rfl)
/-- The second launch's third window holds its block before a step. -/
theorem dpBefore2 (c : Dev nD) (t : Fin cfg1.N) (d) : (dpDat W c).before 2 t d = dpBlk W c 2 t :=
  ((dpDat W c).before_in_eq_fetched 2 rfl (fun _ => rfl) (fun _ _ _ => rfl) (fun t => by rw [dpAfter2]; unfold Dat.blockOf dpBlk; rw [dpDat_A]; try rfl) t d).trans
    (by unfold Dat.fetched Dat.blockOf dpBlk; rw [dpDat_A]; try rfl)
/-- The second launch's fourth window holds its block before a step. -/
theorem dpBefore3 (c : Dev nD) (t : Fin cfg1.N) (d) : (dpDat W c).before 3 t d = dpBlk W c 3 t :=
  ((dpDat W c).before_in_eq_fetched 3 rfl (fun _ => rfl) (fun _ _ _ => rfl) (fun t => by rw [dpAfter3]; unfold Dat.blockOf dpBlk; rw [dpDat_A]; try rfl) t d).trans
    (by unfold Dat.fetched Dat.blockOf dpBlk; rw [dpDat_A]; try rfl)
/-- The second launch's fifth window holds its block before a step. -/
theorem dpBefore4 (c : Dev nD) (t : Fin cfg1.N) (d) : (dpDat W c).before 4 t d = dpBlk W c 4 t :=
  ((dpDat W c).before_in_eq_fetched 4 rfl (fun _ => rfl) (fun _ _ _ => rfl) (fun t => by rw [dpAfter4]; unfold Dat.blockOf dpBlk; rw [dpDat_A]; try rfl) t d).trans
    (by unfold Dat.fetched Dat.blockOf dpBlk; rw [dpDat_A]; try rfl)

/-! ## The body obligation -/

/-- Window `w`'s current staging memref at the one point. -/
abbrev dst0 (t : Fin cfg1.N) : Memref sig .tc .vmem S5x8209x40 .f32 := win1_0.stage (cfg1.slots t 0)
/-- The buffer in which the second launch stages its second window. -/
abbrev dst1 (t : Fin cfg1.N) : Memref sig .tc .vmem S5x16x40 .f32 := win1_1.stage (cfg1.slots t 1)
/-- The buffer in which the second launch stages its third window. -/
abbrev dst2 (t : Fin cfg1.N) : Memref sig .tc .vmem S5x5x40 .f32 := win1_2.stage (cfg1.slots t 2)
/-- The buffer in which the second launch stages its fourth window. -/
abbrev dst3 (t : Fin cfg1.N) : Memref sig .tc .vmem S5x40 .f32 := win1_3.stage (cfg1.slots t 3)
/-- The buffer in which the second launch stages its fifth window. -/
abbrev dst4 (t : Fin cfg1.N) : Memref sig .tc .vmem S1x40 .i32 := win1_4.stage (cfg1.slots t 4)
/-- The buffer in which the second launch stages its sixth window. -/
abbrev dst5 (t : Fin cfg1.N) : Memref sig .tc .vmem S1x40 .f32 := win1_5.stage (cfg1.slots t 5)

/-- What the body is called with at point `t`. -/
def dpPre (c : Dev nD) (t : Fin cfg1.N) : sProp 𝕄 :=
  iprop((dpDat W c).Φ t.castSucc ∗ (dpDat W c).owesAt () t.castSucc
    ∗ (∃ d, owns (c : Thread nD τ) (dst0 t) fullShare ((dpDat W c).before 0 t d))
    ∗ (∃ d, owns (c : Thread nD τ) (dst1 t) fullShare ((dpDat W c).before 1 t d))
    ∗ (∃ d, owns (c : Thread nD τ) (dst2 t) fullShare ((dpDat W c).before 2 t d))
    ∗ (∃ d, owns (c : Thread nD τ) (dst3 t) fullShare ((dpDat W c).before 3 t d))
    ∗ (∃ d, owns (c : Thread nD τ) (dst4 t) fullShare ((dpDat W c).before 4 t d))
    ∗ (∃ d, owns (c : Thread nD τ) (dst5 t) fullShare ((dpDat W c).before 5 t d)))

/-- What the body returns at point `t`. -/
def dpPost (c : Dev nD) (t : Fin cfg1.N) : sProp 𝕄 :=
  iprop((dpDat W c).Φ t.succ ∗ (dpDat W c).owesAt () t.succ
    ∗ owns (c : Thread nD τ) (dst0 t) fullShare ((dpDat W c).after 0 t)
    ∗ owns (c : Thread nD τ) (dst1 t) fullShare ((dpDat W c).after 1 t)
    ∗ owns (c : Thread nD τ) (dst2 t) fullShare ((dpDat W c).after 2 t)
    ∗ owns (c : Thread nD τ) (dst3 t) fullShare ((dpDat W c).after 3 t)
    ∗ owns (c : Thread nD τ) (dst4 t) fullShare ((dpDat W c).after 4 t)
    ∗ owns (c : Thread nD τ) (dst5 t) fullShare ((dpDat W c).after 5 t))

set_option maxHeartbeats 1600000 in
/-- The body's triple at the one point. -/
theorem dp_body (c : Dev nD) (t : Fin cfg1.N) :
    dpPre W c t ⊢ wp frame (wpE (defs₀ (F := F)) Variants.none c none) Set.univ (bodyAt1 t) (fun _ => dpPost W c t) := by
  unfold dpPre dpPost bodyAt1
  simp only [dpBefore0, dpBefore1, dpBefore2, dpBefore3, dpBefore4]
  rw [show (dpDat W c).owesAt () t.succ = (dpDat W c).owesAt () t.castSucc from rfl,
    dpAfter0, dpAfter1, dpAfter2, dpAfter3, dpAfter4, dpAfter5]
  rw [show (dpDat W c).Φ t.succ = (dpDat W c).Φ t.castSucc from rfl]
  unfold dpOut
  iintro ⟨Hg, Ho, ⟨%d0, H0⟩, ⟨%d1, H1⟩, ⟨%d2, H2⟩, ⟨%d3, H3⟩, ⟨%d4, H4⟩, ⟨%d5, H5⟩⟩
  iapply (dp_run c _ _ _ _ _ _ _ _ _ _ _ _ (dpBlk W c 0 t) (dpBlk W c 1 t) (dpBlk W c 2 t) (dpBlk W c 3 t) (dpBlk W c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation for the recursion, at every point. -/
theorem dp_obligation (c : Dev nD) : BodyObligation (dpDat W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (dp_body W c t) rfl .rfl fun _ => .rfl

end Cert.KernelIdeal.Own

end
-- ==== Proof.RunIdeal.lean ====
/- The run of @main: the two regions' records over what each is entered with, and the contents every unscoped
   buffer is left with. -/
module

public import proofs.«01_k».proof.Proof.EncoderIdeal
public import proofs.«01_k».proof.Proof.DpIdeal
public import Idealize.ShloMosaic.Lib.Pipeline.RegionArraysS

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- What the encoder's region leaves in each buffer. -/
def outsA : Outs (F := F) := fun _ r c => Pipeline.afterRegion (encDat (V1 m) c) (V1 m c) (Proc.devRef .tc r)

/-- What each region leaves: the encoder's over the contents it is entered with, the recursion's over the contents
    the host stretches between them make of that. -/
def outs : Outs (F := F) := fun j r c => match j with
  | 10 => Pipeline.afterRegion (dpDat (V9 m (outsA m)) c) (V9 m (outsA m) c) (Proc.devRef .tc r)
  | _ => outsA m j r c

/-- The first launch's result, as the run's record names it. -/
theorem outs_two : outs m 2 = outsA m 2 := rfl
/-- The host's buffers after the first launch don't depend on the second launch's result. -/
theorem V2_outs (c : Dev nD) : V2 m (outs m) c = V2 m (outsA m) c := by unfold V2; rw [outs_two]
/-- The host's buffers before the second launch don't depend on its result. -/
theorem V9_outs : V9 m (outs m) = V9 m (outsA m) := by
  funext c; unfold V9 V8 V7 V6 V5 V4 V3; rw [V2_outs]

/-- The proof data of the two regions. -/
def pdats : (p : Fin 2) → (c : Dev nD) → Dat τ (Elt F) Unit ℕ (UR sig nD τ) ℕ (cfgs p) c
  | 0 => encDat (V1 m)
  | 1 => dpDat (V9 m (outs m))

/-! ## The levels: one index, at every cell of a TensorCore -/

/-- The levels of the semaphores: one on each core's own, none elsewhere. -/
def L : GSem nD τ sig → Finset Unit := fun g => if g.1.2 = .tc then {()} else ∅
/-- The one level is zero. -/
def lv : GSem nD τ sig → Unit → ℕ := fun _ _ => 0
/-- Other semaphores have no level. -/
theorem hL (g : GSem nD τ sig) (h : g.1.2 ≠ .tc) : L g = ∅ := if_neg h

/-- The levels split at each launch. -/
theorem cut (p : Fin 2) : Pipeline.LevelCut (pcfgs (F := F)) adm () L lv p (fun _ => 0) (fun _ => 0) where
  hι c w s := by unfold L; rw [if_pos rfl]; exact Finset.mem_singleton_self _
  hιb c w s := le_refl _
  hD c g i h := absurd h (Nat.lt_irrefl 0)

/-- What rides beside the buffers: a thread that owes nothing, and its generator register. -/
def Rest (c : Dev nD) : sProp 𝕄 := iprop((∃ Wd, owes (c : Thread nD τ) (0 : CellTallies nD τ sig Unit) Wd) ∗ (∃ r, prngReg c r) ∗ emp)

/-! ## The regions' records -/

/-- The first launch as a stretch of the run. -/
def R0 : Pipeline.RegionSeg (pcfgs (F := F)) adm (pdats m) () defs₀ Variants.none L lv 0 :=
  Pipeline.RegionSeg.ofHeldIn _ _ _ _ _ _ _ _ _ (fun _ => 0) (Pipeline.ucRefs τ sig) (fun c => iprop(∃ r, prngReg c r)) (fun c => iprop(∃ r, prngReg c r))
    launch0.toP rfl (fun c => (enc_obligation (V1 m) c).loose) (fun _ _ => rfl) (fun _ => rfl) (fun c w => (encDat (V1 m) c).share_full (fun _ => rfl) w)
    (fun c => enc_in (V1 m) c) (fun c => enc_out (V1 m) c) (fun _ => 0) (cut 0) (fun _ => iprop(emp)) (V1 m)
    (fun c w => encDat_A (V1 m) c w)

/-- The second launch as a stretch of the run. -/
def R1 : Pipeline.RegionSeg (pcfgs (F := F)) adm (pdats m) () defs₀ Variants.none L lv 1 :=
  Pipeline.RegionSeg.ofHeldIn _ _ _ _ _ _ _ _ _ (fun _ => 0) (Pipeline.ucRefs τ sig) (fun c => iprop(∃ r, prngReg c r)) (fun c => iprop(∃ r, prngReg c r))
    launch1.toP rfl (fun c => (dp_obligation (V9 m (outs m)) c).loose) (fun _ _ => rfl) (fun _ => rfl) (fun c w => (dpDat (V9 m (outs m)) c).share_full (fun _ => rfl) w)
    (fun c => .rfl) (fun c => .rfl) (fun _ => 0) (cut 1) (fun _ => iprop(emp)) (V9 m (outs m))
    (fun c w => dpDat_A (V9 m (outs m)) c w)

/-- The first launch's arrays are buffers of the host. -/
theorem arr_sub0 : Pipeline.arrRefs (τ := τ) spec0 ⊆ Pipeline.ucRefs τ sig := Pipeline.arrRefs_sub_ucRefs _ (by decide)
/-- The second launch's arrays are buffers of the host. -/
theorem arr_sub1 : Pipeline.arrRefs (τ := τ) spec1 ⊆ Pipeline.ucRefs τ sig := Pipeline.arrRefs_sub_ucRefs _ (by decide)
/-- The first launch writes one array. -/
theorem arr_out0 : ∀ w : Fin 6, Pipeline.arrRef spec0 w = main_v2 ∨ (spec0 w).isOut = false := by decide
/-- The second launch writes one array. -/
theorem arr_out1 : ∀ w : Fin 6, Pipeline.arrRef spec1 w = main_v79 ∨ (spec1 w).isOut = false := by decide

/-- After the encoder's region only its output array has changed. -/
theorem after0 (c : Dev nD) (b : DevRef τ sig) (hb : b ∈ Pipeline.ucRefs τ sig) :
    Pipeline.afterRegion (encDat (V1 m) c) (V1 m c) b = V2 m (outs m) c b := by
  obtain ⟨r, -, rfl⟩ := Finset.mem_map.mp (Finset.mem_filter.mp hb).1
  by_cases h : r = main_v2
  · subst h; exact (Function.update_self (f := V1 m c) (a := Proc.devRef .tc main_v2) (outs m 2 main_v2 c)).symm
  · refine (Pipeline.afterRegion_keeps _ _ winFacts0.arr_inj (encDat_A (V1 m) c) r fun w e => (arr_out0 w).resolve_left fun e' => h (e.symm.trans e')).trans ?_
    exact (Function.update_of_ne (fun e => h (Proc.devRef_injective _ e)) _ _).symm

/-- After the recursion's region only its output array has changed. -/
theorem after1 (c : Dev nD) (b : DevRef τ sig) (hb : b ∈ Pipeline.ucRefs τ sig) :
    Pipeline.afterRegion (dpDat (V9 m (outs m)) c) (V9 m (outs m) c) b = V10 m (outs m) c b := by
  obtain ⟨r, -, rfl⟩ := Finset.mem_map.mp (Finset.mem_filter.mp hb).1
  by_cases h : r = main_v79
  · subst h; refine Eq.trans ?_ (Function.update_self (f := V9 m (outs m) c) (a := Proc.devRef .tc main_v79) (outs m 10 main_v79 c)).symm; rw [V9_outs]; rfl
  · refine (Pipeline.afterRegion_keeps _ _ winFacts1.arr_inj (dpDat_A (V9 m (outs m)) c) r fun w e => (arr_out1 w).resolve_left fun e' => h (e.symm.trans e')).trans ?_
    exact (Function.update_of_ne (fun e => h (Proc.devRef_injective _ e)) _ _).symm

/-- What the host holds is what the first launch needs. -/
theorem pre0 (c : Dev nD) : iprop(StableHlo.held (c : Thread nD τ) (Pipeline.ucRefs τ sig) (V1 m c) ∗ Rest c) ⊢ (R0 (F := F) m).pre c := by
  unfold R0 Rest
  exact Pipeline.RegionSeg.ofHeldIn_pre (pcs := pcfgs (F := F)) (a := adm) (pdats := pdats m) (p := 0) (W := V1 m) (X := fun c => iprop(∃ r, prngReg c r)) (R := fun _ => iprop(emp)) (b := fun _ => 0) (L := L) (lv := lv) (ι := ()) (defs₀ := defs₀) (𝒱₀ := Variants.none) (D := fun _ => 0) (S := Pipeline.ucRefs τ sig) (by exact arr_sub0) c
/-- What the first launch leaves is what the host goes on with. -/
theorem post0 (c : Dev nD) : (R0 (F := F) m).post c ⊢ iprop(StableHlo.held (c : Thread nD τ) (Pipeline.ucRefs τ sig) (V2 m (outs m) c) ∗ Rest c) := by
  rw [← StableHlo.held_congr (c.tc : Thread nD τ) (after0 m c)]
  unfold R0 Rest
  exact Pipeline.RegionSeg.ofHeldIn_post (pcs := pcfgs (F := F)) (a := adm) (pdats := pdats m) (p := 0) (D := fun _ => 0) (S := Pipeline.ucRefs τ sig) (by exact arr_sub0) c
/-- What the host holds is what the second launch needs. -/
theorem pre1 (c : Dev nD) : iprop(StableHlo.held (c : Thread nD τ) (Pipeline.ucRefs τ sig) (V9 m (outs m) c) ∗ Rest c) ⊢ (R1 (F := F) m).pre c := by
  unfold R1 Rest
  exact Pipeline.RegionSeg.ofHeldIn_pre (pcs := pcfgs (F := F)) (a := adm) (pdats := pdats m) (p := 1) (W := V9 m (outs m)) (X := fun c => iprop(∃ r, prngReg c r)) (R := fun _ => iprop(emp)) (b := fun _ => 0) (L := L) (lv := lv) (ι := ()) (defs₀ := defs₀) (𝒱₀ := Variants.none) (D := fun _ => 0) (S := Pipeline.ucRefs τ sig) (by exact arr_sub1) c
/-- What the second launch leaves is what the host goes on with. -/
theorem post1 (c : Dev nD) : (R1 (F := F) m).post c ⊢ iprop(StableHlo.held (c : Thread nD τ) (Pipeline.ucRefs τ sig) (V10 m (outs m) c) ∗ Rest c) := by
  rw [← StableHlo.held_congr (c.tc : Thread nD τ) (after1 m c)]
  unfold R1 Rest
  exact Pipeline.RegionSeg.ofHeldIn_post (pcs := pcfgs (F := F)) (a := adm) (pdats := pdats m) (p := 1) (D := fun _ => 0) (S := Pipeline.ucRefs τ sig) (by exact arr_sub1) c

/-! ## The run -/

/-- What the run leaves: every unscoped buffer at the last valuation. -/
def Final (s : MemSt nD τ sig (Elt F)) : Prop :=
  ∀ (c : Dev nD) (b : DevRef τ sig), b ∈ Pipeline.ucRefs τ sig → s.mem (c, b) = V11 m (outs m) c b

set_option backward.isDefEq.respectTransparency.types false in
/-- From any memory with zero counters every weakly fair execution of @main terminates, every unscoped buffer is left
    at the last valuation and every counter at zero. -/
theorem run_main : θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (R0 m) (R1 m))
    (fun c Q => by
      rewrite [main_chain c, Pipeline.Seg.run_eq_chain,
        show (segs m (outs m) Variants.none L lv (fun _ => Rest) () (pdats m) (R0 m) (R1 m) c).map Pipeline.Seg.prog = [
          StableHlo.seq hostOps0, Prog.lift (.customCall (Pipeline.entry 0) ()), StableHlo.seq hostOps1, StableHlo.seq hostOps1_1,
          StableHlo.seq hostOps1_2, StableHlo.seq hostOps1_3, StableHlo.seq hostOps1_4, StableHlo.seq hostOps1_5, StableHlo.seq hostOps1_6,
          Prog.lift (.customCall (Pipeline.entry 1) ()), StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) hL (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (V11 m (outs m) c))
    (hch := fun c => ⟨.rfl, pre0 m c, post0 m c, .rfl, .rfl, .rfl, .rfl, .rfl, .rfl, pre1 m c, post1 m c, sep_mono .rfl ?_⟩)
    (hinit := Pipeline.initEach L lv fun c => ?_)
    (QY := fun c s => ∀ b : DevRef τ sig, b ∈ Pipeline.ucRefs τ sig → s.mem (c, b) = V11 m (outs m) c b)
    (hfin := fun c s' => ?_) (hQ := fun _ h hz => ⟨h, funext fun g => hz g (.inr (regions_no_unscoped g.2))⟩)
  · rw [show (bigSep Finset.univ fun _ : Dev nD => (iprop(emp) : sProp 𝕄)) = iprop(emp) from BI.bigSep_emp_const _, ownU_emb₁]
    iintro H
    imodintro
    isplitl [H]; · iexact H
    iempintro
  · unfold Rest
    iintro ⟨H, -⟩
    iexact H
  · rw [show (unscopedBufs c fun b => m ((c.tc : Thread nD τ).loc b) : sProp 𝕄)
        = StableHlo.held (c.tc : Thread nD τ) (Pipeline.ucRefs τ sig) (V0 m c) from Pipeline.unscopedBufs_held c (V0 m c)]
    unfold Rest
    iintro ⟨⟨Hub, Hus, HO, Hcr, Hp, HG⟩, -⟩
    imodintro
    isplitl [Hub]; · iexact Hub
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro; exact h
    · iexact HSI

/-- An unscoped buffer of the TensorCore after the run. -/
theorem Final.at {s : MemSt nD τ sig (Elt F)} (h : Final m s) (c : Dev nD) (r : Ref sig .tc) (hr : r.isScoped = false) :
    s.mem ((c.tc : Thread nD τ).loc r) = V11 m (outs m) c (Proc.devRef .tc r) :=
  h c _ (Finset.mem_filter.mpr ⟨StableHlo.devRef_mem_tcRefs r, fun h' => Bool.false_ne_true (hr.symm.trans h')⟩)

end Cert.KernelIdeal.Own
-- ==== Proof.FrameIdeal.lean ====
/- The frame: no host stretch and no region writes an argument. -/
module

public import proofs.«01_k».proof.Proof.RunIdeal

@[expose] public section

set_option maxRecDepth 16384

noncomputable section

namespace Cert.KernelIdeal.Own

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- From any memory with zero counters @main terminates, its arguments as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => ⟨(h.1.at m c main_arg0 rfl).trans (V11_main_arg0 m (outs m) c),
    (h.1.at m c main_arg1 rfl).trans (V11_main_arg1 m (outs m) c),
    (h.1.at m c main_arg2 rfl).trans (V11_main_arg2 m (outs m) c),
    (h.1.at m c main_arg3 rfl).trans (V11_main_arg3 m (outs m) c),
    (h.1.at m c main_arg4 rfl).trans (V11_main_arg4 m (outs m) c),
    (h.1.at m c main_arg5 rfl).trans (V11_main_arg5 m (outs m) c),
    (h.1.at m c main_arg6 rfl).trans (V11_main_arg6 m (outs m) c),
    (h.1.at m c main_arg7 rfl).trans (V11_main_arg7 m (outs m) c),
    (h.1.at m c main_arg8 rfl).trans (V11_main_arg8 m (outs m) c)⟩, h.2⟩) (run_main m ρ)

end Cert.KernelIdeal.Own
-- ==== Proof.RefRun.lean ====
/- The reference's run: what @main's stretches and the loop leave alone, and the frame. -/
module

public import proofs.«01_k».proof.Proof.Gen.ReferenceIdeal.Run
public import Idealize.ShloMosaic.Lib.Quiescent

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- A buffer no operation before the loop writes. -/
abbrev preW : List (Ref sig .tc) := hostOps0_W ++ hostOps0_1_W ++ hostOps0_2_W ++ hostOps0_3_W ++ hostOps0_4_W
/-- The host code before the loop leaves alone what it doesn't write. -/
theorem pre_keep (V : Valuation τ sig (Elt F)) (r : Ref sig .tc) (h : r ∉ preW) : afterL preI V (Proc.devRef .tc r) = V (Proc.devRef .tc r) := by
  simp only [preW, List.mem_append, not_or] at h
  obtain ⟨⟨⟨⟨h0, h1⟩, h2⟩, h3⟩, h4⟩ := h
  rw [afterL_cons, afterL_cons, afterL_cons, afterL_cons, afterL_cons, afterL_nil]
  rw [after_of_writes_sub hostOps0_4 _ hostOps0_4_writes h4]
  rw [after_of_writes_sub hostOps0_3 _ hostOps0_3_writes h3]
  rw [after_of_writes_sub hostOps0_2 _ hostOps0_2_writes h2]
  rw [after_of_writes_sub hostOps0_1 _ hostOps0_1_writes h1]
  rw [after_of_writes_sub hostOps0 _ hostOps0_writes h0]

/-- A buffer no operation of a trip writes. -/
abbrev tripW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W
/-- A trip leaves alone what it doesn't write. -/
theorem trip_keep (V : Valuation τ sig (Elt F)) (r : Ref sig .tc) (h : r ∉ tripW) : afterL bodyI (after condOps V) (Proc.devRef .tc r) = V (Proc.devRef .tc r) := by
  simp only [tripW, List.mem_append, not_or] at h
  obtain ⟨⟨⟨⟨⟨⟨⟨⟨⟨h0, h1⟩, h2⟩, h3⟩, h4⟩, h5⟩, h6⟩, h7⟩, h8⟩, h9⟩ := h
  rw [afterL_cons, afterL_cons, afterL_cons, afterL_cons, afterL_cons, afterL_cons, afterL_cons, afterL_cons, afterL_cons, afterL_nil]
  rw [after_of_writes_sub while0Ops0_8 _ while0Ops0_8_writes h9]
  rw [after_of_writes_sub while0Ops0_7 _ while0Ops0_7_writes h8]
  rw [after_of_writes_sub while0Ops0_6 _ while0Ops0_6_writes h7]
  rw [after_of_writes_sub while0Ops0_5 _ while0Ops0_5_writes h6]
  rw [after_of_writes_sub while0Ops0_4 _ while0Ops0_4_writes h5]
  rw [after_of_writes_sub while0Ops0_3 _ while0Ops0_3_writes h4]
  rw [after_of_writes_sub while0Ops0_2 _ while0Ops0_2_writes h3]
  rw [after_of_writes_sub while0Ops0_1 _ while0Ops0_1_writes h2]
  rw [after_of_writes_sub while0Ops0 _ while0Ops0_writes h1]
  rw [after_of_writes_sub condOps _ condOps_writes h0]

/-- A buffer no operation after the loop writes. -/
abbrev postW : List (Ref sig .tc) := hostOps0_5_W ++ hostOps0_6_W ++ hostOps0_7_W
/-- The host code after the loop leaves alone what it doesn't write. -/
theorem post_keep (V : Valuation τ sig (Elt F)) (r : Ref sig .tc) (h : r ∉ postW) : afterL postI V (Proc.devRef .tc r) = V (Proc.devRef .tc r) := by
  simp only [postW, List.mem_append, not_or] at h
  obtain ⟨⟨h0, h1⟩, h2⟩ := h
  rw [afterL_cons, afterL_cons, afterL_cons, afterL_nil]
  rw [after_of_writes_sub hostOps0_7 _ hostOps0_7_writes h2]
  rw [after_of_writes_sub hostOps0_6 _ hostOps0_6_writes h1]
  rw [after_of_writes_sub hostOps0_5 _ hostOps0_5_writes h0]

/-- A buffer no trip writes is at the loop's entry contents before every trip. -/
theorem atK_keep (c : Dev nD) (r : Ref sig .tc) (h : r ∉ tripW) (k : ℕ) :
    atK m k c (Proc.devRef .tc r) = entryContents preI m c (Proc.devRef .tc r) := by
  induction k with
  | zero => rfl
  | succ k ih => exact (trip_keep _ r h).trans ih

/-- A buffer written before the loop only. -/
theorem final_keep (c : Dev nD) (r : Ref sig .tc) (h : r ∉ tripW) (h' : r ∉ postW) :
    finalContents condOps preI bodyI postI 8192 m c (Proc.devRef .tc r) = entryContents preI m c (Proc.devRef .tc r) := by
  refine (post_keep _ r h').trans ?_
  have hc : r ∉ condOps_W := fun hc => h (by simp only [tripW, List.mem_append]; tauto)
  exact (after_of_writes_sub condOps _ condOps_writes hc).trans (atK_keep m c r h 8192)

/-- An argument ends as launched. -/
theorem final_arg (c : Dev nD) (r : Ref sig .tc) (h0 : r ∉ preW) (h : r ∉ tripW) (h' : r ∉ postW) :
    finalContents condOps preI bodyI postI 8192 m c (Proc.devRef .tc r) = m ((c.tc : Thread nD τ).loc r) :=
  (final_keep m c r h h').trans (pre_keep _ r h0)

/-- What the run leaves, with every semaphore counter at zero: the program has none. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 8192 m c (Proc.devRef .tc b)) ∧ r.2.sem = fun _ => 0) :=
  (θ_run _ _ _).mono (fun r h => ⟨h, sem_eq_zero_of_no_sems rfl r.2⟩) (run_fold m ρ)

/-- From any memory with zero counters @main terminates, its arguments as launched and every counter at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => ⟨(h.1 c main_arg0 rfl).trans (final_arg m c main_arg0 (by decide +kernel) (by decide +kernel) (by decide +kernel)),
    (h.1 c main_arg1 rfl).trans (final_arg m c main_arg1 (by decide +kernel) (by decide +kernel) (by decide +kernel)),
    (h.1 c main_arg2 rfl).trans (final_arg m c main_arg2 (by decide +kernel) (by decide +kernel) (by decide +kernel)),
    (h.1 c main_arg3 rfl).trans (final_arg m c main_arg3 (by decide +kernel) (by decide +kernel) (by decide +kernel)),
    (h.1 c main_arg4 rfl).trans (final_arg m c main_arg4 (by decide +kernel) (by decide +kernel) (by decide +kernel)),
    (h.1 c main_arg5 rfl).trans (final_arg m c main_arg5 (by decide +kernel) (by decide +kernel) (by decide +kernel)),
    (h.1 c main_arg6 rfl).trans (final_arg m c main_arg6 (by decide +kernel) (by decide +kernel) (by decide +kernel)),
    (h.1 c main_arg7 rfl).trans (final_arg m c main_arg7 (by decide +kernel) (by decide +kernel) (by decide +kernel)),
    (h.1 c main_arg8 rfl).trans (final_arg m c main_arg8 (by decide +kernel) (by decide +kernel) (by decide +kernel))⟩, h.2⟩) (run_main m ρ)

end Cert.ReferenceIdeal.Own
-- ==== Proof.HostGather.lean ====
/- The four table reads of the host code between the two launches, each read at an index: which element of its operand a
   result element is, once the index word it reads is known. -/
module

public import proofs.«01_k».proof.Proof.Gen.KernelIdeal
public import Idealize.ShloMosaic.Lib.Pointwise

@[expose] public section

noncomputable section

namespace Cert.KernelIdeal.Own

open Idealize.ShloMosaic Cert.KernelIdeal

variable {α : Type} [Cert.KernelIdeal.Facts]

/-- A class number as a word reads back, signed, as itself. -/
theorem class_word (q : Fin 5) : (BitVec.ofNat 32 q.val).toInt.toNat = q.val := by
  fin_cases q <;> decide

/-- The read of the prefix sums along the class axis. -/
theorem gather_cum_at (x : S8193x5x8.Idx → α) (idx : IVec S5x5x1 32) (n : Fin 8193) (r c : Fin 5) (b : Fin 8) (q : Fin 5)
    (h : idx (ix3 r c 0) = BitVec.ofNat 32 q.val) :
    Host.gather gather_S8193x5x8_S5x5x1_S8193x5x5x8_03_1_n_n_1_2_819318 x idx (ix4 n r c b) = x (ix3 n q b) := by
  unfold Host.gather
  refine congrArg x (funext fun a => Fin.ext ?_)
  have hs : (gather_S8193x5x8_S5x5x1_S8193x5x5x8_03_1_n_n_1_2_819318).siIdx (ix4 n r c b) ⟨0, by decide⟩ = ix3 r c 0 := by
    funext a; fin_cases a <;> rfl
  fin_cases a
  · exact Nat.zero_add _
  · show min (idx ((gather_S8193x5x8_S5x5x1_S8193x5x5x8_03_1_n_n_1_2_819318).siIdx (ix4 n r c b) ⟨0, by decide⟩)).toInt.toNat (5 - 1) + 0 + 0 = q.val
    rw [hs, h, class_word]; omega
  · exact Nat.zero_add _

/-- The read of the duration table along the class axis. -/
theorem gather_dur_at (x : S16x5.Idx → α) (idx : IVec S5x5x1 32) (i : Fin 16) (r c : Fin 5) (q : Fin 5)
    (h : idx (ix3 r c 0) = BitVec.ofNat 32 q.val) :
    Host.gather gather_S16x5_S5x5x1_S16x5x5_0_1_n_n_1_2_161 x idx (ix3 i r c) = x (ix2 i q) := by
  unfold Host.gather
  refine congrArg x (funext fun a => Fin.ext ?_)
  have hs : (gather_S16x5_S5x5x1_S16x5x5_0_1_n_n_1_2_161).siIdx (ix3 i r c) ⟨0, by decide⟩ = ix3 r c 0 := by
    funext a; fin_cases a <;> rfl
  fin_cases a
  · exact Nat.zero_add _
  · show min (idx ((gather_S16x5_S5x5x1_S16x5x5_0_1_n_n_1_2_161).siIdx (ix3 i r c) ⟨0, by decide⟩)).toInt.toNat (5 - 1) + 0 + 0 = q.val
    rw [hs, h, class_word]; omega

/-- The read of the transition table at a pair of classes. -/
theorem gather_trans_at (x : S5x5.Idx → α) (idx : IVec S5x5x5x2 32) (r s c : Fin 5) (p q : Fin 5)
    (hp : idx (ix4 r s c 0) = BitVec.ofNat 32 p.val) (hq : idx (ix4 r s c 1) = BitVec.ofNat 32 q.val) :
    Host.gather gather_S5x5_S5x5x5x2_S5x5x5_n_01_n_n_01_3_11 x idx (ix3 r s c) = x (ix2 p q) := by
  unfold Host.gather
  refine congrArg x (funext fun a => Fin.ext ?_)
  have hs0 : (gather_S5x5_S5x5x5x2_S5x5x5_n_01_n_n_01_3_11).siIdx (ix3 r s c) ⟨0, by decide⟩ = ix4 r s c 0 := by
    funext a; fin_cases a <;> rfl
  have hs1 : (gather_S5x5_S5x5x5x2_S5x5x5_n_01_n_n_01_3_11).siIdx (ix3 r s c) ⟨1, by decide⟩ = ix4 r s c 1 := by
    funext a; fin_cases a <;> rfl
  fin_cases a
  · show min (idx ((gather_S5x5_S5x5x5x2_S5x5x5_n_01_n_n_01_3_11).siIdx (ix3 r s c) ⟨0, by decide⟩)).toInt.toNat (5 - 1) + 0 + 0 = p.val
    rw [hs0, hp, class_word]; omega
  · show min (idx ((gather_S5x5_S5x5x5x2_S5x5x5_n_01_n_n_01_3_11).siIdx (ix3 r s c) ⟨1, by decide⟩)).toInt.toNat (5 - 1) + 0 + 0 = q.val
    rw [hs1, hq, class_word]; omega

/-- The read of the start scores. -/
theorem gather_start_at (x : S5.Idx → α) (idx : IVec S5x5x1 32) (r c : Fin 5) (q : Fin 5)
    (h : idx (ix3 r c 0) = BitVec.ofNat 32 q.val) :
    Host.gather gather_S5_S5x5x1_S5x5_n_0_n_n_0_2_1 x idx (ix2 r c) = x (ix1 q) := by
  unfold Host.gather
  refine congrArg x (funext fun a => Fin.ext ?_)
  have hs : (gather_S5_S5x5x1_S5x5_n_0_n_n_0_2_1).siIdx (ix2 r c) ⟨0, by decide⟩ = ix3 r c 0 := by
    funext a; fin_cases a <;> rfl
  fin_cases a
  show min (idx ((gather_S5_S5x5x1_S5x5_n_0_n_n_0_2_1).siIdx (ix2 r c) ⟨0, by decide⟩)).toInt.toNat (5 - 1) + 0 + 0 = q.val
  rw [hs, h, class_word]; omega

end Cert.KernelIdeal.Own
-- ==== Proof.HostOperands.lean ====
/- The operands that the host code builds for the second launch, read at an index. Lane `l` of 40 stands for class
   `l / 8` of sequence `l % 8`; in row block `r` of the operands the class is rotated back by `r`. -/
module

public import proofs.«01_k».proof.Proof.RunIdeal
public import proofs.«01_k».proof.Proof.HostGather
public import Idealize.ShloMosaic.Lib.Pointwise
public import Idealize.ShloMosaic.Lib.StableHlo.ReadAt

@[expose] public section

noncomputable section

namespace Cert.KernelIdeal.Own

open Idealize.ShloMosaic Idealize.SL.Sem Cert.KernelIdeal Cert.KernelIdeal.Gen

/-- The class that a lane holds before any rotation. -/
abbrev cls (l : Fin 40) : Fin 5 := ⟨l.val / 8, by omega⟩
/-- The sequence that a lane holds. -/
abbrev bat (l : Fin 40) : Fin 8 := ⟨l.val % 8, by omega⟩

/-- A class number is already reduced: the host's wrap of negative indices leaves it. -/
theorem norm5 (q : Fin 5) :
    Scalar.select (IntOp.cmpi .slt (BitVec.ofNat 32 q.val) 0#32) (IntOp.addi (BitVec.ofNat 32 q.val) 5#32) (BitVec.ofNat 32 q.val)
      = BitVec.ofNat 32 q.val := by
  fin_cases q <;> decide

section Words
variable (V : Valuation τ sig (Elt Ideal))

/-- The host's remainder by five of the difference of two classes is their difference in `Fin 5`. -/
theorem rem0_at (h5 : V (Proc.devRef .tc main_c) ix0 = 5#32) (r c : Fin 5)
    (hd : V (Proc.devRef .tc main_v10) (ix2 r c) = IntOp.subi (BitVec.ofNat 32 c.val) (BitVec.ofNat 32 r.val)) :
    StableHlo.after hostOps1_1 V (Proc.devRef .tc main_v11) (ix2 r c) = BitVec.ofNat 32 (c - r).val := by
  after_reads_at
  simp only [id_eq]
  rw [h5, hd]
  fin_cases r <;> fin_cases c <;> decide

/-- The same of the second table of differences. -/
theorem rem1_at (h5 : V (Proc.devRef .tc main_c_5) ix0 = 5#32) (r c : Fin 5)
    (hd : V (Proc.devRef .tc main_v40) (ix3 0 r c) = IntOp.subi (BitVec.ofNat 32 c.val) (BitVec.ofNat 32 r.val)) :
    StableHlo.after hostOps1_3 V (Proc.devRef .tc main_v41) (ix3 0 r c) = BitVec.ofNat 32 (c - r).val := by
  after_reads_at
  simp only [id_eq]
  rw [h5, hd]
  fin_cases r <;> fin_cases c <;> decide

/-- The same of the third table of differences. -/
theorem rem2_at (h5 : V (Proc.devRef .tc main_c_6) ix0 = 5#32) (r c : Fin 5)
    (hd : V (Proc.devRef .tc main_v46) (ix3 r 0 c) = IntOp.subi (BitVec.ofNat 32 c.val) (BitVec.ofNat 32 r.val)) :
    StableHlo.after hostOps1_5 V (Proc.devRef .tc main_v47) (ix3 r 0 c) = BitVec.ofNat 32 (c - r).val := by
  after_reads_at
  simp only [id_eq]
  rw [h5, hd]
  fin_cases r <;> fin_cases c <;> decide

/-- A difference of two class numbers, before the first remainder. -/
theorem diff0_at (r c : Fin 5) :
    StableHlo.after hostOps1 V (Proc.devRef .tc main_v10) (ix2 r c) = IntOp.subi (BitVec.ofNat 32 c.val) (BitVec.ofNat 32 r.val) := by
  after_reads_at
/-- The first remainder is by five. -/
theorem five0_at : StableHlo.after hostOps1 V (Proc.devRef .tc main_c) ix0 = 5#32 := by
  after_reads_at
/-- The class numbers count from zero. -/
theorem iota_at (c : Fin 5) : StableHlo.after hostOps1 V (Proc.devRef .tc main_v5) (ix1 c) = BitVec.ofNat 32 c.val := by
  after_reads_at
/-- A difference of two class numbers, before the second remainder. -/
theorem diff1_at (h : ∀ c : Fin 5, V (Proc.devRef .tc main_v5) (ix1 c) = BitVec.ofNat 32 c.val) (r c : Fin 5) :
    StableHlo.after hostOps1_2 V (Proc.devRef .tc main_v40) (ix3 0 r c) = IntOp.subi (BitVec.ofNat 32 c.val) (BitVec.ofNat 32 r.val) := by
  after_reads_at
  rw [h, h]
/-- The second remainder is by five. -/
theorem five1_at : StableHlo.after hostOps1_2 V (Proc.devRef .tc main_c_5) ix0 = 5#32 := by
  after_reads_at
/-- A difference of two class numbers, before the third remainder. -/
theorem diff2_at (h : ∀ c : Fin 5, V (Proc.devRef .tc main_v5) (ix1 c) = BitVec.ofNat 32 c.val) (r c : Fin 5) :
    StableHlo.after hostOps1_4 V (Proc.devRef .tc main_v46) (ix3 r 0 c) = IntOp.subi (BitVec.ofNat 32 c.val) (BitVec.ofNat 32 r.val) := by
  after_reads_at
  rw [h, h]
/-- The third remainder is by five. -/
theorem five2_at : StableHlo.after hostOps1_4 V (Proc.devRef .tc main_c_6) ix0 = 5#32 := by
  after_reads_at

end Words

section Tables
variable (V : Valuation τ sig (Elt Ideal)) (h11 : ∀ r c : Fin 5, V (Proc.devRef .tc main_v11) (ix2 r c) = BitVec.ofNat 32 (c - r).val)
include h11

/-- The padded, rotated prefix sums. -/
theorem cumt_after (r : Fin 5) (k : Fin 8209) (l : Fin 40) :
    (StableHlo.after hostOps1_2 V (Proc.devRef .tc main_v23) (ix3 r k l) : EReal)
      = if h : k.val < 16 then (0 : EReal) else V (Proc.devRef .tc main_v4) (ix3 (bat l) ⟨k.val - 16, by omega⟩ (cls l - r)) := by
  after_reads_at
  split
  · rfl
  · refine (gather_cum_at _ _ _ _ _ _ (cls l - r) ?_).trans ?_
    · pointwise
      rw [h11]
      exact norm5 _
    · pointwise

/-- The rotated durations, longest first. -/
theorem dur_after (r : Fin 5) (i : Fin 16) (l : Fin 40) :
    (StableHlo.after hostOps1_2 V (Proc.devRef .tc main_v35) (ix3 r i l) : EReal)
      = V (Proc.devRef .tc main_arg8) (ix2 (cls l - r) i.rev) := by
  after_reads_at
  refine (gather_dur_at _ _ _ _ _ (cls l - r) ?_).trans ?_
  · pointwise
    rw [h11]
    exact norm5 _
  · pointwise
    rfl

/-- The rotated start scores. -/
theorem start_after (r : Fin 5) (l : Fin 40) :
    (StableHlo.after hostOps1_6 V (Proc.devRef .tc main_v74) (ix2 r l) : EReal) = V (Proc.devRef .tc main_arg7) (ix1 (cls l - r)) := by
  after_reads_at
  refine (gather_start_at _ _ _ _ (cls l - r) ?_)
  pointwise
  rw [h11]
  exact norm5 _

end Tables

section Rest
variable (V : Valuation τ sig (Elt Ideal))

/-- The rotated transition scores. -/
theorem trans_after (h41 : ∀ r c : Fin 5, V (Proc.devRef .tc main_v41) (ix3 0 r c) = BitVec.ofNat 32 (c - r).val)
    (h47 : ∀ r c : Fin 5, V (Proc.devRef .tc main_v47) (ix3 r 0 c) = BitVec.ofNat 32 (c - r).val) (r p : Fin 5) (l : Fin 40) :
    (StableHlo.after hostOps1_6 V (Proc.devRef .tc main_v65) (ix3 r p l) : EReal)
      = V (Proc.devRef .tc main_arg6) (ix2 (cls l - p) (cls l - r)) := by
  after_reads_at
  refine (gather_trans_at _ _ _ _ _ (cls l - p) (cls l - r) ?_ ?_)
  · pointwise
    after_reads_at
    rw [h41]
    exact norm5 _
  · pointwise
    after_reads_at
    rw [h47]
    exact norm5 _

/-- The lengths, one copy per class. -/
theorem len_after (l : Fin 40) :
    StableHlo.after hostOps1_6 V (Proc.devRef .tc main_v78) (ix2 0 l) = V (Proc.devRef .tc main_arg1) (ix1 (bat l)) := by
  after_reads_at

/-- The prefix sums with a row of zeros in front. -/
theorem cum_after (b : Fin 8) (n : Fin 8193) (c : Fin 5) :
    (StableHlo.after hostOps1 V (Proc.devRef .tc main_v4) (ix3 b n c) : EReal)
      = if h : n.val < 1 then (0 : EReal) else V (Proc.devRef .tc main_v2) (ix3 b ⟨n.val - 1, by omega⟩ c) := by
  after_reads_at

/-- The partition values: the first eight lanes. -/
theorem part_after (b : Fin 8) :
    (StableHlo.after hostOps2 V (Proc.devRef .tc main_v81) (ix1 b) : EReal) = V (Proc.devRef .tc main_v79) (ix2 0 ⟨b.val, by omega⟩) := by
  after_reads_at

/-- The bias rows as the encoder reads them. -/
theorem benc_after (k : Fin 256) :
    (StableHlo.after hostOps0 V (Proc.devRef .tc main_v0) (ix2 0 k) : EReal) = V (Proc.devRef .tc main_arg3) (ix1 k) := by
  after_reads_at
/-- The projection's bias as a row. -/
theorem bproj_after (c : Fin 5) :
    (StableHlo.after hostOps0 V (Proc.devRef .tc main_v1) (ix2 0 c) : EReal) = V (Proc.devRef .tc main_arg5) (ix1 c) := by
  after_reads_at

end Rest

end Cert.KernelIdeal.Own
-- ==== Proof.Spec.lean ====
/- The mathematics both programs compute, over plain functions: the emission scores of every position and their
   prefix sums. -/
module

public import Idealize.ShloMosaic.Lib.Pointwise

@[expose] public section

noncomputable section

namespace Cert.Spec

open Idealize.ShloMosaic

/-- The arguments as functions of their coordinates. -/
@[ext] structure Args where
  x : Fin 8 → Fin 8192 → Fin 4 → EReal
  len : Fin 8 → BitVec 32
  we : Fin 4 → Fin 256 → EReal
  be : Fin 256 → EReal
  wp : Fin 256 → Fin 5 → EReal
  bp : Fin 5 → EReal
  tr : Fin 5 → Fin 5 → EReal
  st : Fin 5 → EReal
  du : Fin 5 → Fin 16 → EReal

/-- The tanh form of the gelu activation. -/
def act (h : EReal) : EReal :=
  h * (Ideal.ofBits .f32 1056964608#32 * (1 + Ideal.tanh (Ideal.ofBits .f32 1061962282#32 * (h + Ideal.ofBits .f32 1027024659#32 * (h * (h * h))))))

variable (A : Args)

/-- The emission score of class `c` at position `j` of sequence `b`. -/
def emi (b : Fin 8) (j : Fin 8192) (c : Fin 5) : EReal :=
  ∑ k, act (∑ q, A.x b j q * A.we q k + A.be k) * A.wp k c + A.bp c

/-- The same for any number, zero past the end. -/
def emiN (b : Fin 8) (j : ℕ) (c : Fin 5) : EReal := if h : j < 8192 then emi A b ⟨j, h⟩ c else 0

/-- The prefix sum of the first `n` emission scores. -/
def cum (b : Fin 8) (n : ℕ) (c : Fin 5) : EReal := ∑ j ∈ Finset.range n, emiN A b j c

/-- The prefix sum of no scores is zero. -/
theorem cum_zero (b : Fin 8) (c : Fin 5) : cum A b 0 c = 0 := by simp [cum]

/-- A masked sum over one block of positions is the part of the prefix sum inside that block. -/
theorem block_sum {w : ℕ} (f : ℕ → EReal) (i : Fin w) :
    ∑ x : Fin w, (if x.val ≤ i.val then (1 : EReal) else 0) * f x.val = ∑ j ∈ Finset.range (i.val + 1), f j := by
  have h : ∀ x : Fin w, (if x.val ≤ i.val then (1 : EReal) else 0) * f x.val = (fun j : ℕ => if j ≤ i.val then f j else 0) x.val := by
    intro x; show _ = if _ then _ else _; split <;> simp
  rw [Finset.sum_congr rfl fun x _ => h x, Fin.sum_univ_eq_sum_range (fun j : ℕ => if j ≤ i.val then f j else 0),
    ← Finset.sum_filter]
  refine Finset.sum_congr ?_ fun _ _ => rfl
  ext j
  have := i.isLt
  simp only [Finset.mem_filter, Finset.mem_range]
  omega

/-- A prefix sum splits at any point. -/
theorem cum_add (b : Fin 8) (n k : ℕ) (c : Fin 5) : cum A b n c + ∑ j ∈ Finset.range k, emiN A b (n + j) c = cum A b (n + k) c :=
  (Finset.sum_range_add _ n k).symm

end Cert.Spec
-- ==== Proof.EncoderValue.lean ====
/- The array the encoder's launch leaves: the prefix sums of the emission scores. -/
module

public import proofs.«01_k».proof.Proof.HostOperands
public import proofs.«01_k».proof.Proof.Spec
public import Idealize.ShloMosaic.Lib.Pipeline.ValueKit

@[expose] public section

noncomputable section

namespace Cert.KernelIdeal.Own

open Idealize.ShloMosaic Idealize.ShloMosaic.TcCoe Idealize.SL.Sem Cert.KernelIdeal Cert.KernelIdeal.Gen

/-- The mask of the lower triangle as a number. -/
theorem mask_at (i x : Fin 512) :
    FloatOps.sitofp (F := Ideal) .f32 (BitVec.setWidth 32 (IntOp.cmpi .sge (BitVec.ofNat 32 i.val) (BitVec.ofNat 32 x.val)))
      = if x.val ≤ i.val then (1 : EReal) else 0 := by
  have h1 : IntOp.cmpi .sge (BitVec.ofNat 32 i.val) (BitVec.ofNat 32 x.val) = 1#1 ↔ x.val ≤ i.val := by word_cmp
  by_cases h : x.val ≤ i.val
  · rw [if_pos h, h1.mpr h]
    show ((((BitVec.setWidth 32 1#1).toInt : ℤ) : ℝ) : EReal) = 1
    rw [show (BitVec.setWidth 32 1#1).toInt = 1 from by decide]; simp
  · rw [if_neg h, show IntOp.cmpi .sge (BitVec.ofNat 32 i.val) (BitVec.ofNat 32 x.val) = 0#1 from
      (BitVec.eq_zero_or_eq_one _).resolve_right fun e => h (h1.mp e)]
    show ((((BitVec.setWidth 32 0#1).toInt : ℤ) : ℝ) : EReal) = 0
    rw [show (BitVec.setWidth 32 0#1).toInt = 0 from by decide]; simp

/-- The scan of one block of rows, at an index. -/
theorem pay4_at (x0 : FVec Ideal S1x512x4 .f32) (x1 : FVec Ideal S4x256 .f32) (x2 : FVec Ideal S1x256 .f32) (x3 : FVec Ideal S256x5 .f32)
    (x4 : FVec Ideal S1x5 .f32) (i : Fin 512) (c : Fin 5) :
    (k0_pay4 (F := Ideal) x0 x1 x2 x3 x4 (ix2 i c) : EReal)
      = ∑ x : Fin 512, (if x.val ≤ i.val then (1 : EReal) else 0)
          * (∑ k : Fin 256, Spec.act (∑ q : Fin 4, x0 (ix3 0 x q) * x1 (ix2 q k) + x2 (ix2 0 k)) * x3 (ix2 k c) + x4 (ix2 0 c)) := by
  pointwise [k0_pay4]
  simp only [mask_at]
  rfl

/-- A block's totals: those inside the block and the carried row. -/
theorem pay2_at (x0 : FVec Ideal S512x5 .f32) (x1 : FVec Ideal S1x5 .f32) (i : Fin 512) (c : Fin 5) :
    (k0_pay2 (F := Ideal) x0 x1 (ix3 0 i c) : EReal) = x0 (ix2 i c) + x1 (ix2 0 c) := by pointwise [k0_pay2, k0_pay1]
/-- The row carried on is the last row of a block's totals. -/
theorem pay3_at (x0 : FVec Ideal S512x5 .f32) (x1 : FVec Ideal S1x5 .f32) (c : Fin 5) :
    (k0_pay3 (F := Ideal) x0 x1 (ix2 0 c) : EReal) = x0 (ix2 511 c) + x1 (ix2 0 c) := by pointwise [k0_pay3, k0_pay1]
/-- The carried row starts at zero. -/
theorem pay5_at (c : Fin 5) : (k0_pay5 (F := Ideal) (ix2 0 c) : EReal) = 0 := by pointwise [k0_pay5]

/-! ## The blocks -/

/-- A step of the first launch takes a sequence and one of its sixteen blocks. -/
theorem idx0 : ∀ t : Fin cfg0.N, win0_0.index t (0 : Fin 3) = t.val / 16 ∧ win0_0.index t (1 : Fin 3) = t.val % 16 ∧ win0_0.index t (2 : Fin 3) = 0
    ∧ win0_5.index t (0 : Fin 3) = t.val / 16 ∧ win0_5.index t (1 : Fin 3) = t.val % 16 ∧ win0_5.index t (2 : Fin 3) = 0 :=
  (by decide +kernel : ∀ t : Fin grid0.N, _)
/-- The first launch's weights and biases are one block each. -/
theorem idx0' : ∀ t : Fin cfg0.N, (∀ a, win0_1.index t a = 0) ∧ (∀ a, win0_2.index t a = 0) ∧ (∀ a, win0_3.index t a = 0) ∧ (∀ a, win0_4.index t a = 0) :=
  (by decide +kernel : ∀ t : Fin grid0.N, _)

/-- The first launch has 128 steps. -/
theorem lt128 (t : Fin cfg0.N) : t.val < 128 := lt_of_lt_of_eq t.isLt N_0

section
variable (W : Dev nD → Valuation τ sig (Elt Ideal)) (c : Dev nD) (t : Fin cfg0.N)

/-- A block of the sequences, entry by entry. -/
theorem blk0_at (i : Fin 512) (q : Fin 4) :
    encBlk W c 0 t (ix3 0 i q) = W c (Proc.devRef .tc main_arg0) (ix3 ⟨t.val / 16, by have := lt128 t; omega⟩ ⟨512 * (t.val % 16) + i.val, by omega⟩ q) := by
  obtain ⟨e0, e1, e2, -⟩ := idx0 t
  show W c (Proc.devRef .tc main_arg0) (((cfg0.win 0).blk t).view.emb (ix3 0 i q)) = _
  congr 1; funext a; apply Fin.ext
  match a with
  | ⟨0, _⟩ => show win0_0.index t (0 : Fin 3) * 1 + 1 * 0 = t.val / 16; omega
  | ⟨1, _⟩ => show win0_0.index t (1 : Fin 3) * 512 + 1 * i.val = 512 * (t.val % 16) + i.val; omega
  | ⟨2, _⟩ => show win0_0.index t (2 : Fin 3) * 4 + 1 * q.val = q.val; omega
/-- The block of the first launch's second operand is the whole operand. -/
theorem blk1_at (q : Fin 4) (k : Fin 256) : encBlk W c 1 t (ix2 q k) = W c (Proc.devRef .tc main_arg2) (ix2 q k) := by
  obtain ⟨e, -⟩ := idx0' t
  show W c (Proc.devRef .tc main_arg2) (((cfg0.win 1).blk t).view.emb (ix2 q k)) = _
  congr 1; funext a; apply Fin.ext
  match a with
  | ⟨0, _⟩ => show win0_1.index t (0 : Fin 2) * 4 + 1 * q.val = q.val; have := e 0; omega
  | ⟨1, _⟩ => show win0_1.index t (1 : Fin 2) * 256 + 1 * k.val = k.val; have := e 1; omega
/-- The block of the first launch's third operand is the whole operand. -/
theorem blk2_at (k : Fin 256) : encBlk W c 2 t (ix2 0 k) = W c (Proc.devRef .tc main_v0) (ix2 0 k) := by
  obtain ⟨-, e, -⟩ := idx0' t
  show W c (Proc.devRef .tc main_v0) (((cfg0.win 2).blk t).view.emb (ix2 0 k)) = _
  congr 1; funext a; apply Fin.ext
  match a with
  | ⟨0, _⟩ => show win0_2.index t (0 : Fin 2) * 1 + 1 * 0 = 0; have := e 0; omega
  | ⟨1, _⟩ => show win0_2.index t (1 : Fin 2) * 256 + 1 * k.val = k.val; have := e 1; omega
/-- The block of the first launch's fourth operand is the whole operand. -/
theorem blk3_at (k : Fin 256) (d : Fin 5) : encBlk W c 3 t (ix2 k d) = W c (Proc.devRef .tc main_arg4) (ix2 k d) := by
  obtain ⟨-, -, e, -⟩ := idx0' t
  show W c (Proc.devRef .tc main_arg4) (((cfg0.win 3).blk t).view.emb (ix2 k d)) = _
  congr 1; funext a; apply Fin.ext
  match a with
  | ⟨0, _⟩ => show win0_3.index t (0 : Fin 2) * 256 + 1 * k.val = k.val; have := e 0; omega
  | ⟨1, _⟩ => show win0_3.index t (1 : Fin 2) * 5 + 1 * d.val = d.val; have := e 1; omega
/-- The block of the first launch's fifth operand is the whole operand. -/
theorem blk4_at (d : Fin 5) : encBlk W c 4 t (ix2 0 d) = W c (Proc.devRef .tc main_v1) (ix2 0 d) := by
  obtain ⟨-, -, -, e⟩ := idx0' t
  show W c (Proc.devRef .tc main_v1) (((cfg0.win 4).blk t).view.emb (ix2 0 d)) = _
  congr 1; funext a; apply Fin.ext
  match a with
  | ⟨0, _⟩ => show win0_4.index t (0 : Fin 2) * 1 + 1 * 0 = 0; have := e 0; omega
  | ⟨1, _⟩ => show win0_4.index t (1 : Fin 2) * 5 + 1 * d.val = d.val; have := e 1; omega

end

/-! ## The prefix sums -/

/-- The arguments of the launch, as plain functions. -/
def argsOf (m : (ℓ : Loc nD τ sig) → Buf (Elt Ideal) ℓ) (c : Dev nD) : Spec.Args where
  x b j q := m (c.tc.loc main_arg0) (ix3 b j q)
  len b := m (c.tc.loc main_arg1) (ix1 b)
  we q k := m (c.tc.loc main_arg2) (ix2 q k)
  be k := m (c.tc.loc main_arg3) (ix1 k)
  wp k d := m (c.tc.loc main_arg4) (ix2 k d)
  bp d := m (c.tc.loc main_arg5) (ix1 d)
  tr p q := m (c.tc.loc main_arg6) (ix2 p q)
  st d := m (c.tc.loc main_arg7) (ix1 d)
  du d j := m (c.tc.loc main_arg8) (ix2 d j)

variable (m : (ℓ : Loc nD τ sig) → Buf (Elt Ideal) ℓ) (c : Dev nD)

/-- The sequence of a grid point. -/
abbrev seqOf (t : Fin cfg0.N) : Fin 8 := ⟨t.val / 16, by have := lt128 t; omega⟩

/-- The scan of a block is the part of the prefix sum inside the block. -/
theorem scan_at (t : Fin cfg0.N) (i : Fin 512) (d : Fin 5) :
    (encScan (V1 m) c t (ix2 i d) : EReal)
      = ∑ j ∈ Finset.range (i.val + 1), Spec.emiN (argsOf m c) (seqOf t) (512 * (t.val % 16) + j) d := by
  unfold encScan
  rw [pay4_at, ← Spec.block_sum (fun j => Spec.emiN (argsOf m c) (seqOf t) (512 * (t.val % 16) + j) d) i]
  refine Finset.sum_congr rfl fun x _ => ?_
  congr 1
  unfold Spec.emiN
  rw [dif_pos (show 512 * (t.val % 16) + x.val < 8192 by omega)]
  unfold Spec.emi
  refine congrArg₂ (· + ·) (Finset.sum_congr rfl fun k _ => congrArg₂ (· * ·) (congrArg _ (congrArg₂ (· + ·) (Finset.sum_congr rfl fun q _ => congrArg₂ (· * ·) ?_ ?_) ?_)) ?_) ?_
  · rw [blk0_at, V1_of m c main_arg0 (by decide)]; rfl
  · rw [blk1_at, V1_of m c main_arg2 (by decide)]; rfl
  · rw [blk2_at]; exact benc_after _ k
  · rw [blk3_at, V1_of m c main_arg4 (by decide)]; rfl
  · rw [blk4_at]; exact bproj_after _ d

/-- The carried row is the prefix sum up to the block. -/
theorem carry_at (d : Fin 5) : ∀ (n : ℕ) (hn : n < cfg0.N),
    (encCarry (V1 m) c n hn (ix2 0 d) : EReal) = Spec.cum (argsOf m c) (seqOf ⟨n, hn⟩) (512 * (n % 16)) d := by
  intro n
  induction n with
  | zero => intro hn; exact (pay5_at d).trans (Spec.cum_zero _ _ _).symm
  | succ n ih =>
    intro hn
    by_cases h : (n + 1) % 16 = 0
    · rw [encCarry_first (V1 m) c ⟨n + 1, hn⟩ h, pay5_at, h]; exact (Spec.cum_zero _ _ _).symm
    · rw [encCarry_next (V1 m) c ⟨n + 1, hn⟩ h (Nat.lt_of_succ_lt hn), pay3_at, scan_at]
      refine (congrArg₂ (· + ·) rfl (ih _)).trans ?_
      rw [add_comm]
      have e : seqOf ⟨n + 1 - 1, Nat.lt_of_succ_lt hn⟩ = seqOf ⟨n + 1, hn⟩ := Fin.ext (by show (n + 1 - 1) / 16 = (n + 1) / 16; omega)
      have e' : seqOf ⟨n, Nat.lt_of_succ_lt hn⟩ = seqOf ⟨n + 1, hn⟩ := e
      rw [e, e']
      refine (Spec.cum_add (argsOf m c) _ (512 * (n % 16)) 512 d).trans ?_
      congr 1
      omega

/-- The array the encoder leaves. -/
def encG : Buf (Elt Ideal) ((c : Thread nD τ).loc main_v2) := fun i : S8x8192x5.Idx => Spec.cum (argsOf m c) (i 0) ((i 1).val + 1) (i 2)

/-- What a step of the first launch writes: prefix sums of the emission scores. -/
theorem encOut_at (t : Fin cfg0.N) (i : Fin 512) (d : Fin 5) :
    (encOut (V1 m) c t (ix3 0 i d) : EReal) = Spec.cum (argsOf m c) (seqOf t) (512 * (t.val % 16) + i.val + 1) d := by
  unfold encOut
  rw [pay2_at, scan_at, carry_at m c d t.val t.isLt, add_comm]
  exact Spec.cum_add _ _ _ _ _

/-- What the first launch leaves in its result. -/
theorem encArr : (encDat (V1 m) c).arrAt 5 cfg0.N = encG m c := by
  refine (encDat (V1 m) c).arrAt_eq_of_covers 5 _ (by decide +kernel) fun t hf y => ?_
  obtain ⟨-, -, -, e0, e1, e2⟩ := idx0 t
  have a0 : ((((cfg0.win 5).blk t).view.emb y : S8x8192x5.Idx) 0).val = win0_5.index t (0 : Fin 3) * 1 + 1 * (y 0).val := rfl
  have a1 : ((((cfg0.win 5).blk t).view.emb y : S8x8192x5.Idx) 1).val = win0_5.index t (1 : Fin 3) * 512 + 1 * (y 1).val := rfl
  have a2 : ((((cfg0.win 5).blk t).view.emb y : S8x8192x5.Idx) 2).val = win0_5.index t (2 : Fin 3) * 5 + 1 * (y 2).val := rfl
  have y0 : (y 0).val < 1 := (y 0).isLt
  have hy : (y : S1x512x5.Idx) = ix3 0 (y 1) (y 2) := by
    refine (eq_ix3 (n0 := 1) (n1 := 512) (n2 := 5) y).trans ?_
    rw [Subsingleton.elim (α := Fin 1) (y 0) 0]
    rfl
  show encOut (V1 m) c t y = encG m c (((cfg0.win 5).blk t).view.emb y)
  refine (congrArg (encOut (V1 m) c t) hy).trans ?_
  refine (encOut_at m c t (y 1) (y 2)).trans ?_
  refine congr (congr (congrArg (Spec.cum (argsOf m c)) (Fin.ext ?_)) ?_) (Fin.ext ?_)
  · show t.val / 16 = _; omega
  · show 512 * (t.val % 16) + (y 1).val + 1 = ((((cfg0.win 5).blk t).view.emb y : S8x8192x5.Idx) 1).val + 1; omega
  · show (y 2).val = _; omega

/-- What the launch's result buffer holds when the second host stretch reads it. -/
theorem V2_main_v2 : V2 m (outsA m) c (Proc.devRef .tc main_v2) = encG m c :=
  (Function.update_self (f := V1 m c) (a := Proc.devRef .tc main_v2) (outsA m 2 main_v2 c)).trans <|
    (Pipeline.afterRegion_arr (encDat (V1 m) c) (V1 m c) winFacts0.arr_inj 5).trans (encArr m c)

/-- The prefix sums as the second result holds them. -/
theorem V3_cum (b : Fin 8) (n : Fin 8193) (d : Fin 5) :
    V3 m (outsA m) c (Proc.devRef .tc main_v4) (ix3 b n d) = Spec.cum (argsOf m c) b n.val d := by
  refine (cum_after _ b n d).trans ?_
  split
  · rename_i h; rw [show n.val = 0 by omega]; exact (Spec.cum_zero _ _ _).symm
  · rename_i h
    refine (congrFun (V2_main_v2 m c) _).trans ?_
    show Spec.cum _ _ (n.val - 1 + 1) _ = _
    rw [show n.val - 1 + 1 = n.val by omega]
    rfl

/-! ## The operands of the second launch -/

/-- The table of rotated classes, for the first gather. -/
theorem V4_rot (r d : Fin 5) : V4 m (outsA m) c (Proc.devRef .tc main_v11) (ix2 r d) = BitVec.ofNat 32 (d - r).val :=
  rem0_at _ (five0_at _) r d (diff0_at _ r d)
/-- The class numbers, for the first gather. -/
theorem V4_iota (d : Fin 5) : V4 m (outsA m) c (Proc.devRef .tc main_v5) (ix1 d) = BitVec.ofNat 32 d.val :=
  (congrFun (V4_of m (outsA m) c main_v5 (by decide)) _).trans (iota_at _ d)
/-- The table of rotated classes, for the transition scores' row. -/
theorem V6_rot (r d : Fin 5) : V6 m (outsA m) c (Proc.devRef .tc main_v41) (ix3 0 r d) = BitVec.ofNat 32 (d - r).val :=
  rem1_at _ (five1_at _) r d (diff1_at _ (V4_iota m c) r d)
/-- The class numbers, for the later gathers. -/
theorem V6_iota (d : Fin 5) : V6 m (outsA m) c (Proc.devRef .tc main_v5) (ix1 d) = BitVec.ofNat 32 d.val :=
  (congrFun ((V6_of m (outsA m) c main_v5 (by decide)).trans (V5_of m (outsA m) c main_v5 (by decide))) _).trans (V4_iota m c d)
/-- The table of rotated classes, for the transition scores' column. -/
theorem V8_rot (r d : Fin 5) : V8 m (outsA m) c (Proc.devRef .tc main_v47) (ix3 r 0 d) = BitVec.ofNat 32 (d - r).val :=
  rem2_at _ (five2_at _) r d (diff2_at _ (V6_iota m c) r d)

/-- A buffer that nothing before the second launch writes is as launched. -/
theorem V8_arg (r : Ref sig .tc) (h1 : r ∉ hostOps0_W) (h2 : r ∉ ([main_v2] : List (Ref sig .tc))) (h3 : r ∉ hostOps1_W) (h4 : r ∉ hostOps1_1_W)
    (h5 : r ∉ hostOps1_2_W) (h6 : r ∉ hostOps1_3_W) (h7 : r ∉ hostOps1_4_W) (h8 : r ∉ hostOps1_5_W) :
    V8 m (outsA m) c r = m ((c : Thread nD τ).loc r) :=
  (V8_of m _ c r h8).trans <| (V7_of m _ c r h7).trans <| (V6_of m _ c r h6).trans <| (V5_of m _ c r h5).trans <| (V4_of m _ c r h4).trans <|
    (V3_of m _ c r h3).trans <| (V2_of m _ c r h2).trans (V1_of m c r h1)

/-- A table that the third stretch writes and nothing after it does, as the second launch finds it. -/
theorem V9_V5 (r : Ref sig .tc) (h6 : r ∉ hostOps1_3_W) (h7 : r ∉ hostOps1_4_W) (h8 : r ∉ hostOps1_5_W) (h9 : r ∉ hostOps1_6_W) :
    V9 m (outsA m) c r = V5 m (outsA m) c r :=
  (V9_of m _ c r h9).trans <| (V8_of m _ c r h8).trans <| (V7_of m _ c r h7).trans (V6_of m _ c r h6)

/-- The totals that the second launch reads: rotated classes in lanes, sixteen rows of zeros in front. -/
theorem V9_cumt (r : Fin 5) (k : Fin 8209) (l : Fin 40) :
    V9 m (outsA m) c (Proc.devRef .tc main_v23) (ix3 r k l)
      = if k.val < 16 then (0 : EReal) else Spec.cum (argsOf m c) (bat l) (k.val - 16) (cls l - r) := by
  refine (congrFun (V9_V5 m c main_v23 (by decide) (by decide) (by decide) (by decide)) _).trans ?_
  refine (cumt_after _ (V4_rot m c) r k l).trans ?_
  by_cases h : k.val < 16
  · rw [dif_pos h, if_pos h]
  · rw [dif_neg h, if_neg h]
    refine (congrFun (V4_of m (outsA m) c main_v4 (by decide)) _).trans ?_
    exact V3_cum m c _ _ _

/-- The duration scores that the second launch reads: reversed, with rotated classes in lanes. -/
theorem V9_dur (r : Fin 5) (i : Fin 16) (l : Fin 40) :
    V9 m (outsA m) c (Proc.devRef .tc main_v35) (ix3 r i l) = (argsOf m c).du (cls l - r) i.rev := by
  refine (congrFun (V9_V5 m c main_v35 (by decide) (by decide) (by decide) (by decide)) _).trans ?_
  refine (dur_after _ (V4_rot m c) r i l).trans ?_
  exact congrFun ((V4_of m _ c main_arg8 (by decide)).trans <| (V3_of m _ c main_arg8 (by decide)).trans <| (V2_of m _ c main_arg8 (by decide)).trans (V1_of m c main_arg8 (by decide))) _

/-- The transition scores that the second launch reads, with rotated classes in lanes. -/
theorem V9_trans (r p : Fin 5) (l : Fin 40) :
    V9 m (outsA m) c (Proc.devRef .tc main_v65) (ix3 r p l) = (argsOf m c).tr (cls l - p) (cls l - r) := by
  refine (trans_after _ (fun a b => ?_) (V8_rot m c) r p l).trans ?_
  · exact (congrFun ((V8_of m _ c main_v41 (by decide)).trans (V7_of m _ c main_v41 (by decide))) _).trans (V6_rot m c a b)
  · exact congrFun (V8_arg m c main_arg6 (by decide) (by decide) (by decide) (by decide) (by decide) (by decide) (by decide) (by decide)) _

/-- The start scores that the second launch reads, with rotated classes in lanes. -/
theorem V9_start (r : Fin 5) (l : Fin 40) :
    V9 m (outsA m) c (Proc.devRef .tc main_v74) (ix2 r l) = (argsOf m c).st (cls l - r) := by
  refine (start_after _ (fun a b => ?_) r l).trans ?_
  · exact (congrFun ((V8_of m _ c main_v11 (by decide)).trans <| (V7_of m _ c main_v11 (by decide)).trans <| (V6_of m _ c main_v11 (by decide)).trans (V5_of m _ c main_v11 (by decide))) _).trans (V4_rot m c a b)
  · exact congrFun (V8_arg m c main_arg7 (by decide) (by decide) (by decide) (by decide) (by decide) (by decide) (by decide) (by decide)) _

/-- The lengths that the second launch reads, one copy for each class. -/
theorem V9_len (l : Fin 40) : V9 m (outsA m) c (Proc.devRef .tc main_v78) (ix2 0 l) = (argsOf m c).len (bat l) :=
  (len_after _ l).trans <|
    congrFun (V8_arg m c main_arg1 (by decide) (by decide) (by decide) (by decide) (by decide) (by decide) (by decide) (by decide)) _

end Cert.KernelIdeal.Own
-- ==== Proof.SpecScan.lean ====
/- The segment recurrence both programs run, over the reals: the stable logarithm of a sum of exponentials, the
   recurrence itself, and why finite arguments keep every number finite. -/
module

public import proofs.«01_k».proof.Proof.Spec
public import Mathlib.Analysis.SpecialFunctions.Log.Basic

@[expose] public section

noncomputable section

namespace Cert.Spec

open Idealize.ShloMosaic

/-- An extended real that is a real number. -/
def Fin? (x : EReal) : Prop := ∃ r : ℝ, x = ↑r

/-- A sum of reals is a real. -/
theorem Fin?.add {x y : EReal} : Fin? x → Fin? y → Fin? (x + y) := fun ⟨a, ha⟩ ⟨b, hb⟩ => ⟨a + b, by rw [ha, hb, EReal.coe_add]⟩
/-- A product of reals is a real. -/
theorem Fin?.mul {x y : EReal} : Fin? x → Fin? y → Fin? (x * y) := fun ⟨a, ha⟩ ⟨b, hb⟩ => ⟨a * b, by rw [ha, hb, EReal.coe_mul]⟩
/-- The tanh of a real is a real. -/
theorem Fin?.tanh {x : EReal} : Fin? x → Fin? (Ideal.tanh x) := fun ⟨a, ha⟩ => ⟨Real.tanh a, by rw [ha]; rfl⟩
/-- Zero is a real. -/
theorem Fin?.zero : Fin? 0 := ⟨0, rfl⟩
/-- One is a real. -/
theorem Fin?.one : Fin? 1 := ⟨1, rfl⟩

/-- A finite sum of reals is a real. -/
theorem Fin?.sum {ι : Type} (s : Finset ι) {f : ι → EReal} (h : ∀ i, Fin? (f i)) : Fin? (∑ i ∈ s, f i) := by
  classical
  induction s using Finset.induction_on with
  | empty => simpa using Fin?.zero
  | insert a s ha ih => rw [Finset.sum_insert ha]; exact (h a).add ih

/-- A word whose exponent isn't all ones reads a real number. -/
theorem Fin?.lit (w : BitVec 32) (h : (w.extractLsb' 23 8).toNat ≠ 2 ^ 8 - 1) : Fin? (Ideal.ofBits .f32 w) := by
  simp only [Ideal.ofBits, Ideal.ieee]
  rw [if_neg h]
  split_ifs <;> exact ⟨_, rfl⟩

/-- The activation of a real is a real. -/
theorem Fin?.act {h : EReal} (hh : Fin? h) : Fin? (act h) :=
  hh.mul ((Fin?.lit _ (by decide)).mul (Fin?.one.add
    (Fin?.tanh ((Fin?.lit _ (by decide)).mul (hh.add ((Fin?.lit _ (by decide)).mul (hh.mul (hh.mul hh))))))))

/-- Every float argument is a real number. -/
structure Real? (A : Args) : Prop where
  x : ∀ b j q, Fin? (A.x b j q)
  we : ∀ q k, Fin? (A.we q k)
  be : ∀ k, Fin? (A.be k)
  wp : ∀ k c, Fin? (A.wp k c)
  bp : ∀ c, Fin? (A.bp c)
  tr : ∀ p c, Fin? (A.tr p c)
  st : ∀ c, Fin? (A.st c)
  du : ∀ c j, Fin? (A.du c j)

/-- The prefix sums of real arguments are real. -/
theorem Real?.cum {A : Args} (h : Real? A) (b : Fin 8) (n : ℕ) (c : Fin 5) : Fin? (cum A b n c) := by
  refine Fin?.sum _ fun j => ?_
  unfold emiN
  split
  · exact (Fin?.sum _ fun k => (Fin?.act ((Fin?.sum _ fun q => (h.x _ _ q).mul (h.we q k)).add (h.be k))).mul (h.wp k c)).add (h.bp c)
  · exact Fin?.zero

/-- The logarithm of a sum of exponentials. -/
def lse {n : ℕ} (f : Fin n → ℝ) : ℝ := Real.log (∑ k, Real.exp (f k))

/-- Reading the terms through a bijection doesn't change it. -/
theorem lse_equiv {n : ℕ} (e : Fin n ≃ Fin n) (f : Fin n → ℝ) : lse (fun k => f (e k)) = lse f :=
  congrArg Real.log (Equiv.sum_comp e fun k => Real.exp (f k))

/-- A constant moves out of it. -/
theorem lse_add {n : ℕ} (a : ℝ) (f : Fin (n + 1) → ℝ) : a + lse f = lse fun k => f k + a := by
  have hp : 0 < ∑ k, Real.exp (f k) := Finset.sum_pos (fun k _ => Real.exp_pos _) Finset.univ_nonempty
  unfold lse
  simp only [Real.exp_add]
  rw [← Finset.sum_mul, Real.log_mul hp.ne' (Real.exp_ne_zero _), Real.log_exp, add_comm]

/-- A finite sum of reals read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Shifting by any real number and adding it back leaves the logarithm of the sum. -/
theorem lse_shift {n : ℕ} (m : ℝ) (f : Fin (n + 1) → ℝ) :
    (m : EReal) + Ideal.log (∑ k, Ideal.exp ((f k : EReal) - (m : EReal))) = (lse f : EReal) := by
  have h : ∀ k, Ideal.exp ((f k : EReal) - (m : EReal)) = ((Real.exp (f k + -m) : ℝ) : EReal) := fun k => by
    rw [← EReal.coe_sub, sub_eq_add_neg]; rfl
  have hp : 0 < ∑ k, Real.exp (f k + -m) := Finset.sum_pos (fun k _ => Real.exp_pos _) Finset.univ_nonempty
  rw [Finset.sum_congr rfl fun k _ => h k, ← coe_sum]
  show (m : EReal) + (if _ then (⊥ : EReal) else ((Real.log _ : ℝ) : EReal)) = _
  rw [if_neg (not_le.mpr hp), ← EReal.coe_add]
  refine congrArg _ ?_
  have := lse_add (-m) f
  have e : Real.log (∑ k, Real.exp (f k + -m)) = -m + lse f := by rw [this]; rfl
  rw [e]; ring

/-- The word of minus infinity. -/
theorem lit_bot : Ideal.ofBits .f32 4286578688#32 = ⊥ := by
  simp [Ideal.ofBits, Ideal.ieee]

/-- The largest of some real numbers is one, counted from minus infinity. -/
theorem fold_max_real {n : ℕ} (f : Fin (n + 1) → ℝ) :
    Fin? (Finset.fold max (Ideal.ofBits .f32 4286578688#32) (fun k => (f k : EReal)) Finset.univ) := by
  rw [lit_bot]
  have key : ∀ s : Finset (Fin (n + 1)), s.Nonempty → Fin? (Finset.fold max ⊥ (fun k => (f k : EReal)) s) := by
    intro s hs
    induction hs using Finset.Nonempty.cons_induction with
    | singleton a => rw [Finset.fold_singleton]; exact ⟨f a, by simp⟩
    | cons a s ha hs ih =>
      obtain ⟨r, hr⟩ := ih
      rw [Finset.fold_cons, hr]
      exact ⟨max (f a) r, (EReal.coe_strictMono.monotone.map_max).symm⟩
  exact key _ Finset.univ_nonempty

/-- What both programs compute for it: the largest term, the shifted exponentials, and the largest added back. -/
theorem lse_read {n : ℕ} {g : Fin (n + 1) → EReal} (f : Fin (n + 1) → ℝ) (h : ∀ k, g k = (f k : EReal)) :
    Finset.fold max (Ideal.ofBits .f32 4286578688#32) g Finset.univ
      + Ideal.log (∑ k, Ideal.exp (g k - Finset.fold max (Ideal.ofBits .f32 4286578688#32) g Finset.univ)) = (lse f : EReal) := by
  obtain rfl : g = fun k => (f k : EReal) := funext h
  obtain ⟨m, hm⟩ := fold_max_real f
  rw [hm]
  exact lse_shift m f

section Scan

variable (cu : ℕ → Fin 5 → ℝ) (tr : Fin 5 → Fin 5 → ℝ) (st : Fin 5 → ℝ) (du : Fin 5 → Fin 16 → ℝ) (ng : ℝ)

/-- The cumulative score `j` steps before step `n`, zero before the start. -/
def prev (n : ℕ) (j : Fin 16) (c : Fin 5) : ℝ := if j.val ≤ n then cu (n - j.val) c else 0

/-- The score of the segmentations ending in class `c` at step `n`. -/
def alphaOf (H : Fin 16 → Fin 5 → ℝ) (n : ℕ) (c : Fin 5) : ℝ := lse fun j => H j c + (cu (n + 1) c - prev cu n j c) + du c j

/-- One transition. -/
def foldOf (a : Fin 5 → ℝ) (c : Fin 5) : ℝ := lse fun p => a p + tr p c

/-- The scores of the last sixteen steps, latest first. -/
def hist : ℕ → Fin 16 → Fin 5 → ℝ
  | 0 => fun j c => if j.val = 0 then st c else ng
  | n + 1 => fun j c => if h : j.val = 0 then foldOf tr (alphaOf cu du (hist n) n) c else hist n ⟨j.val - 1, by omega⟩ c

/-- The scores of step `n`. -/
def al (n : ℕ) (c : Fin 5) : ℝ := alphaOf cu du (hist cu tr st du ng n) n c

/-- The scores of the last sixteen steps less the cumulative scores there, earliest first. -/
def rel (n : ℕ) (i : Fin 16) (c : Fin 5) : ℝ := hist cu tr st du ng n i.rev c - prev cu n i.rev c

/-- The scores of a step from the relative ones. -/
theorem al_rel (n : ℕ) (c : Fin 5) :
    cu (n + 1) c + lse (fun i => rel cu tr st du ng n i c + du c i.rev) = al cu tr st du ng n c := by
  rw [lse_add]
  unfold al alphaOf
  refine Eq.trans ?_ (lse_equiv Fin.revPerm _)
  refine congrArg lse (funext fun i => ?_)
  show rel cu tr st du ng n i c + du c i.rev + cu (n + 1) c = hist cu tr st du ng n i.rev c + (cu (n + 1) c - prev cu n i.rev c) + du c i.rev
  unfold rel; ring

/-- The relative scores at the start. -/
theorem rel_zero (h0 : ∀ c, cu 0 c = 0) (i : Fin 16) (c : Fin 5) : rel cu tr st du ng 0 i c = if i.val < 15 then ng else st c := by
  unfold rel prev hist
  have hr := Fin.val_rev i
  by_cases h : i.val < 15
  · rw [if_pos h, if_neg (by omega), if_neg (by omega), sub_zero]
  · rw [if_neg h, if_pos (by omega), if_pos (by omega), Nat.zero_sub, h0, sub_zero]

/-- An earlier row of the relative scores is the row after it, one step before. -/
theorem rel_shift (n : ℕ) (i : Fin 16) (c : Fin 5) (h : i.val < 15) :
    rel cu tr st du ng (n + 1) i c = rel cu tr st du ng n ⟨1 + i.val, by omega⟩ c := by
  have hr := Fin.val_rev i
  have hr' := Fin.val_rev (⟨1 + i.val, by omega⟩ : Fin 16)
  simp only at hr'
  unfold rel
  have e1 : hist cu tr st du ng (n + 1) i.rev c = hist cu tr st du ng n (⟨1 + i.val, by omega⟩ : Fin 16).rev c := by
    show (if h : i.rev.val = 0 then _ else hist cu tr st du ng n ⟨i.rev.val - 1, _⟩ c) = _
    rw [dif_neg (by omega)]
    refine congrArg (fun j => hist cu tr st du ng n j c) (Fin.ext ?_)
    show i.rev.val - 1 = (⟨1 + i.val, by omega⟩ : Fin 16).rev.val
    omega
  have e2 : prev cu (n + 1) i.rev c = prev cu n (⟨1 + i.val, by omega⟩ : Fin 16).rev c := by
    unfold prev
    have e : i.rev.val = (⟨1 + i.val, by omega⟩ : Fin 16).rev.val + 1 := by omega
    rw [e]
    simp only [Nat.add_le_add_iff_right, Nat.add_sub_add_right]
  rw [e1, e2]

/-- The last row of the relative scores. -/
theorem rel_last (n : ℕ) (i : Fin 16) (c : Fin 5) (h : ¬ i.val < 15) :
    rel cu tr st du ng (n + 1) i c = foldOf tr (al cu tr st du ng n) c - cu (n + 1) c := by
  have hr := Fin.val_rev i
  unfold rel prev
  rw [if_pos (by omega), show i.rev.val = 0 by omega, Nat.sub_zero]
  refine congrArg (· - _) ?_
  show (if h : i.rev.val = 0 then _ else _) = _
  rw [dif_pos (by omega)]
  rfl

end Scan

section Results

variable (A : Args)

/-- The prefix sums as real numbers. -/
def cuR (b : Fin 8) (n : ℕ) (c : Fin 5) : ℝ := (cum A b n c).toReal
/-- The transition scores as real numbers. -/
def trR (p c : Fin 5) : ℝ := (A.tr p c).toReal
/-- The start scores as real numbers. -/
def stR (c : Fin 5) : ℝ := (A.st c).toReal
/-- The duration scores as real numbers. -/
def duR (c : Fin 5) (j : Fin 16) : ℝ := (A.du c j).toReal
/-- The tables' fill as a real number. -/
def ngR : ℝ := (Ideal.ofBits .f32 0xF149F2CA#32).toReal

/-- The scores of sequence `b` after step `n`. -/
def alR (b : Fin 8) (n : ℕ) (c : Fin 5) : ℝ := al (cuR A b) (trR A) (stR A) (duR A) ngR n c

/-- The score of sequence `b`: the logarithm of the sum, over the classes, at its last position. -/
def part (b : Fin 8) : ℝ := lse fun c => alR A b ((A.len b).toNat - 1) c

/-- A real is the real number it is read as. -/
theorem Fin?.coe_toReal {x : EReal} : Fin? x → x = (x.toReal : EReal) := fun ⟨r, h⟩ => by rw [h, EReal.toReal_coe]

/-- The fill is a real. -/
theorem ngR_eq : Ideal.ofBits .f32 0xF149F2CA#32 = (ngR : EReal) := (Fin?.lit _ (by decide)).coe_toReal

/-- The totals start at zero. -/
theorem cuR_zero (b : Fin 8) (c : Fin 5) : cuR A b 0 c = 0 := by rw [cuR, cum_zero, EReal.toReal_zero]

/-- Every length is a position count. -/
def Len? : Prop := ∀ b, 1 ≤ (A.len b).toNat ∧ (A.len b).toNat ≤ 8192

end Results

end Cert.Spec
-- ==== Proof.DpValue.lean ====
/- The value the recursion's launch leaves: its loop read index by index is the segment recurrence. -/
module

public import proofs.«01_k».proof.Proof.DpIdeal
public import proofs.«01_k».proof.Proof.EncoderValue
public import proofs.«01_k».proof.Proof.SpecScan

@[expose] public section

noncomputable section

namespace Cert.KernelIdeal.Own

open Cert.Spec

open Idealize.ShloMosaic Idealize.ShloMosaic.TcCoe Idealize.SL.Sem Cert.KernelIdeal Cert.KernelIdeal.Gen

/-- One trip, with the five rotations written alike. -/
theorem dpTrip_eq (u : Fin 5 → Vec Ideal S1x1x40 .f32) (D : Fin 5 → FVec Ideal S16x40 .f32) (M : Fin 5 → FVec Ideal S5x40 .f32)
    (ln : IVec S1x40 32) (i : BitVec 32) (g0 g1 g2 g3 g4 : FVec Ideal S16x40 .f32) (p0 p1 p2 p3 p4 : FVec Ideal S1x40 .f32) :
    dpTrip u D M ln i (g0, g1, g2, g3, g4, p0, p1, p2, p3, p4) =
      (let a0 := k1_pay14 (D 0) g0 (u 0)
       let a1 := k1_pay14 (D 1) g1 (u 1)
       let a2 := k1_pay14 (D 2) g2 (u 2)
       let a3 := k1_pay14 (D 3) g3 (u 3)
       let a4 := k1_pay14 (D 4) g4 (u 4)
       (k1_pay29 (M 0) g0 a0 (k1_pay13 (u 0)) a1 a2 a3 a4, k1_pay29 (M 1) g1 a0 (k1_pay13 (u 1)) a1 a2 a3 a4,
        k1_pay29 (M 2) g2 a0 (k1_pay13 (u 2)) a1 a2 a3 a4, k1_pay29 (M 3) g3 a0 (k1_pay13 (u 3)) a1 a2 a3 a4,
        k1_pay29 (M 4) g4 a0 (k1_pay13 (u 4)) a1 a2 a3 a4,
        k1_pay28 ln p0 i a0, k1_pay28 ln p1 i a1, k1_pay28 ln p2 i a2, k1_pay28 ln p3 i a3, k1_pay28 ln p4 i a4)) := rfl

/-- Trip `k` reads row `k + 17` of the cumulative scores. -/
theorem cur_at (x0 : Vec Ideal S5x8209x40 .f32) (k : Fin k1_t1_loop.trips) (r : Fin 5) (l : Fin 40) (h : k.val + 17 < 8209) :
    (k1_pay13 (F := Ideal) (curLd x0 k r) (ix2 0 l) : EReal) = x0 (ix3 r ⟨k.val + 17, h⟩ l) := by
  have e1 := k1_off1_eq k
  have e2 := k1_off2_eq k
  have e3 := k1_off3_eq k
  have e4 := k1_off4_eq k
  have e5 := k1_off5_eq k
  fin_cases r
  all_goals
    pointwise [k1_pay13, curLd, View.ld]
    refine congrArg x0 (congr (congr (congrArg ix3 (Fin.ext ?_)) (Fin.ext ?_)) (Fin.ext ?_))
    all_goals simp [e1, e2, e3, e4, e5, ix2]

/-- The duration table of rotation `r`. -/
theorem dur_at (x1 : Vec Ideal S5x16x40 .f32) (r : Fin 5) (i : Fin 16) (l : Fin 40) :
    (durTab (F := Ideal) x1 r (ix2 i l) : EReal) = x1 (ix3 r i l) := by
  fin_cases r <;> (pointwise [durTab, k1_pay39, k1_pay40, k1_pay41, k1_pay42, k1_pay43, View.ld] <;> rfl)

/-- The transition table of rotation `r`. -/
theorem cf_at (x2 : Vec Ideal S5x5x40 .f32) (r p : Fin 5) (l : Fin 40) :
    (cfTab (F := Ideal) x2 r (ix2 p l) : EReal) = x2 (ix3 r p l) := by
  fin_cases r <;> (pointwise [cfTab, k1_pay44, k1_pay45, k1_pay46, k1_pay47, k1_pay48, View.ld] <;> rfl)

/-- The lengths. -/
theorem len_at (x4 : Vec Ideal S1x40 .i32) (l : Fin 40) : lenRow (F := Ideal) x4 (ix2 0 l) = x4 (ix2 0 l) := by
  pointwise [lenRow, k1_pay49, View.ld] <;> rfl

/-- A rotation's new scores: the cumulative score and the logarithm of the sum over the table. -/
theorem alpha_at (D g : FVec Ideal S16x40 .f32) (u : Vec Ideal S1x1x40 .f32) (l : Fin 40) (c : ℝ) (f : Fin 16 → ℝ)
    (hu : (k1_pay13 (F := Ideal) u (ix2 0 l) : EReal) = (c : EReal))
    (hf : ∀ i, (g (ix2 i l) + D (ix2 i l) : EReal) = (f i : EReal)) :
    (k1_pay14 (F := Ideal) D g u (ix2 0 l) : EReal) = ((c + lse f : ℝ) : EReal) := by
  pointwise [k1_pay14]
  rw [EReal.coe_add, ← hu]
  exact congrArg _ (lse_read f hf)

/-- A rotation's new table: the rows move up, and the last is the transition's logarithm less the cumulative score. -/
theorem shift_at (M : FVec Ideal S5x40 .f32) (g : FVec Ideal S16x40 .f32) (a0 u a1 a2 a3 a4 : FVec Ideal S1x40 .f32) (l : Fin 40) (i : Fin 16)
    (c : ℝ) (f : Fin 5 → ℝ) (hu : (u (ix2 0 l) : EReal) = (c : EReal))
    (h0 : (a0 (ix2 0 l) + M (ix2 0 l) : EReal) = (f 0 : EReal)) (h1 : (a1 (ix2 0 l) + M (ix2 1 l) : EReal) = (f 1 : EReal))
    (h2 : (a2 (ix2 0 l) + M (ix2 2 l) : EReal) = (f 2 : EReal)) (h3 : (a3 (ix2 0 l) + M (ix2 3 l) : EReal) = (f 3 : EReal))
    (h4 : (a4 (ix2 0 l) + M (ix2 4 l) : EReal) = (f 4 : EReal)) :
    (k1_pay29 (F := Ideal) M g a0 u a1 a2 a3 a4 (ix2 i l) : EReal)
      = if h : i.val < 15 then g (ix2 ⟨1 + i.val, by omega⟩ l) else ((lse f - c : ℝ) : EReal) := by
  pointwise [k1_pay29]
  by_cases h : i.val < 15
  · rw [dif_pos h, dif_pos h]
  · rw [dif_neg h, dif_neg h, EReal.coe_sub, ← hu]
    refine congrArg₂ (· - ·) (lse_read f fun x => ?_) ?_
    · fin_cases x
      · exact h0
      · exact h1
      · exact h2
      · exact h3
      · exact h4
    · refine congrArg (fun k => (u (ix2 k l) : EReal)) (Subsingleton.elim _ _)

/-- The picked scores: replaced at the step that is the lane's length. -/
theorem pick_at (ln : IVec S1x40 32) (p a : FVec Ideal S1x40 .f32) (i : BitVec 32) (l : Fin 40) :
    (k1_pay28 (F := Ideal) ln p i a (ix2 0 l) : EReal) = if IntOp.cmpi .eq i (ln (ix2 0 l)) = 1#1 then a (ix2 0 l) else p (ix2 0 l) := by
  pointwise [k1_pay28]
  rfl

/-- The stored row: the logarithm of the sum over the five picked scores. -/
theorem row_at (p0 p1 p2 p3 p4 : FVec Ideal S1x40 .f32) (l : Fin 40) (f : Fin 5 → ℝ)
    (h0 : (p0 (ix2 0 l) : EReal) = (f 0 : EReal)) (h1 : (p1 (ix2 0 l) : EReal) = (f 1 : EReal))
    (h2 : (p2 (ix2 0 l) : EReal) = (f 2 : EReal)) (h3 : (p3 (ix2 0 l) : EReal) = (f 3 : EReal))
    (h4 : (p4 (ix2 0 l) : EReal) = (f 4 : EReal)) :
    (k1_pay12 (F := Ideal) p0 p1 p2 p3 p4 (ix2 0 l) : EReal) = (lse f : EReal) := by
  pointwise [k1_pay12]
  refine lse_read f fun x => ?_
  fin_cases x
  · exact h0
  · exact h1
  · exact h2
  · exact h3
  · exact h4

/-- The fill of the tables, a large negative number. -/
theorem fill_real : Fin? (Ideal.ofBits .f32 0xF149F2CA#32) := Fin?.lit _ (by decide)

/-- What a lane of the carried state holds: five tables and five picked scores, as real numbers. -/
structure Lane (s : DpState Ideal) (l : Fin 40) (G : Fin 5 → Fin 16 → ℝ) (P : Fin 5 → ℝ) : Prop where
  g0 : ∀ i, (s.1 (ix2 i l) : EReal) = (G 0 i : EReal)
  g1 : ∀ i, (s.2.1 (ix2 i l) : EReal) = (G 1 i : EReal)
  g2 : ∀ i, (s.2.2.1 (ix2 i l) : EReal) = (G 2 i : EReal)
  g3 : ∀ i, (s.2.2.2.1 (ix2 i l) : EReal) = (G 3 i : EReal)
  g4 : ∀ i, (s.2.2.2.2.1 (ix2 i l) : EReal) = (G 4 i : EReal)
  p0 : (s.2.2.2.2.2.1 (ix2 0 l) : EReal) = (P 0 : EReal)
  p1 : (s.2.2.2.2.2.2.1 (ix2 0 l) : EReal) = (P 1 : EReal)
  p2 : (s.2.2.2.2.2.2.2.1 (ix2 0 l) : EReal) = (P 2 : EReal)
  p3 : (s.2.2.2.2.2.2.2.2.1 (ix2 0 l) : EReal) = (P 3 : EReal)
  p4 : (s.2.2.2.2.2.2.2.2.2 (ix2 0 l) : EReal) = (P 4 : EReal)

/-- A lane at the start. -/
theorem Lane.init (x3 : Vec Ideal S5x40 .f32) (l : Fin 40) (ng : ℝ) (hn : Ideal.ofBits .f32 0xF149F2CA#32 = (ng : EReal)) (s0 : Fin 5 → ℝ)
    (h3 : ∀ r, (x3 (ix2 r l) : EReal) = (s0 r : EReal)) :
    Lane (dpInit (F := Ideal) x3) l (fun r i => if i.val < 15 then ng else s0 r) (fun _ => ng) := by
  have key : ∀ (r : Fin 5) (i : Fin 16), (if i.val < 15 then Ideal.ofBits .f32 4048155338#32 else x3 (ix2 r l))
      = ((if i.val < 15 then ng else s0 r : ℝ) : EReal) := fun r i => by
    split
    · exact hn
    · exact h3 r
  constructor
  case g0 =>
    intro i; rw [← key 0 i]; pointwise [dpInit, k1_pay1, k1_pay50, k1_pay51, View.ld]
    exact dite_congr rfl (fun _ => rfl) fun _ => congrArg (fun k => (x3 (ix2 k l) : EReal)) (Fin.ext (by simp; omega))
  case g1 =>
    intro i; rw [← key 1 i]; pointwise [dpInit, k1_pay2, k1_pay50, View.ld]
    exact dite_congr rfl (fun _ => rfl) fun _ => congrArg (fun k => (x3 (ix2 k l) : EReal)) (Fin.ext (by simp; omega))
  case g2 =>
    intro i; rw [← key 2 i]; pointwise [dpInit, k1_pay3, k1_pay50, View.ld]
    exact dite_congr rfl (fun _ => rfl) fun _ => congrArg (fun k => (x3 (ix2 k l) : EReal)) (Fin.ext (by simp; omega))
  case g3 =>
    intro i; rw [← key 3 i]; pointwise [dpInit, k1_pay4, k1_pay50, View.ld]
    exact dite_congr rfl (fun _ => rfl) fun _ => congrArg (fun k => (x3 (ix2 k l) : EReal)) (Fin.ext (by simp; omega))
  case g4 =>
    intro i; rw [← key 4 i]; pointwise [dpInit, k1_pay5, k1_pay50, View.ld]
    exact dite_congr rfl (fun _ => rfl) fun _ => congrArg (fun k => (x3 (ix2 k l) : EReal)) (Fin.ext (by simp; omega))
  all_goals
    rw [← hn]; pointwise [dpInit, k1_pay6, k1_pay7, k1_pay8, k1_pay9, k1_pay10]

/-- One trip on a lane. -/
theorem Lane.trip {s : DpState Ideal} {l : Fin 40} {G : Fin 5 → Fin 16 → ℝ} {P : Fin 5 → ℝ} (hs : Lane s l G P)
    (u : Fin 5 → Vec Ideal S1x1x40 .f32) (D : Fin 5 → FVec Ideal S16x40 .f32) (M : Fin 5 → FVec Ideal S5x40 .f32)
    (ln : IVec S1x40 32) (i : BitVec 32) (c : Fin 5 → ℝ) (d : Fin 5 → Fin 16 → ℝ) (m : Fin 5 → Fin 5 → ℝ)
    (hu : ∀ r, (k1_pay13 (F := Ideal) (u r) (ix2 0 l) : EReal) = (c r : EReal))
    (hD : ∀ r i, (D r (ix2 i l) : EReal) = (d r i : EReal)) (hM : ∀ r p, (M r (ix2 p l) : EReal) = (m r p : EReal)) :
    Lane (dpTrip u D M ln i s) l
      (fun r i => if h : i.val < 15 then G r ⟨1 + i.val, by omega⟩
        else (lse fun p => (c p + lse fun i => G p i + d p i) + m r p) - c r)
      (fun r => if IntOp.cmpi .eq i (ln (ix2 0 l)) = 1#1 then c r + lse fun i => G r i + d r i else P r) := by
  obtain ⟨g0, g1, g2, g3, g4, p0, p1, p2, p3, p4⟩ := s
  obtain ⟨h0, h1, h2, h3, h4, q0, q1, q2, q3, q4⟩ := hs
  rw [dpTrip_eq]
  have a0 := alpha_at (D 0) g0 (u 0) l (c 0) (fun i => G 0 i + d 0 i) (hu 0) fun i => by rw [hD, EReal.coe_add]; exact congrArg (· + _) (h0 i)
  have a1 := alpha_at (D 1) g1 (u 1) l (c 1) (fun i => G 1 i + d 1 i) (hu 1) fun i => by rw [hD, EReal.coe_add]; exact congrArg (· + _) (h1 i)
  have a2 := alpha_at (D 2) g2 (u 2) l (c 2) (fun i => G 2 i + d 2 i) (hu 2) fun i => by rw [hD, EReal.coe_add]; exact congrArg (· + _) (h2 i)
  have a3 := alpha_at (D 3) g3 (u 3) l (c 3) (fun i => G 3 i + d 3 i) (hu 3) fun i => by rw [hD, EReal.coe_add]; exact congrArg (· + _) (h3 i)
  have a4 := alpha_at (D 4) g4 (u 4) l (c 4) (fun i => G 4 i + d 4 i) (hu 4) fun i => by rw [hD, EReal.coe_add]; exact congrArg (· + _) (h4 i)
  have row : ∀ (r : Fin 5) (g : FVec Ideal S16x40 .f32) (hg : ∀ i, (g (ix2 i l) : EReal) = (G r i : EReal)) (i : Fin 16),
      (k1_pay29 (F := Ideal) (M r) g (k1_pay14 (D 0) g0 (u 0)) (k1_pay13 (u r)) (k1_pay14 (D 1) g1 (u 1)) (k1_pay14 (D 2) g2 (u 2))
        (k1_pay14 (D 3) g3 (u 3)) (k1_pay14 (D 4) g4 (u 4)) (ix2 i l) : EReal)
      = ((if h : i.val < 15 then G r ⟨1 + i.val, by omega⟩ else (lse fun p => (c p + lse fun i => G p i + d p i) + m r p) - c r : ℝ) : EReal) := by
    intro r g hg i
    rw [shift_at (M r) g _ _ _ _ _ _ l i (c r) (fun p => (c p + lse fun i => G p i + d p i) + m r p) (hu r)
      (by rw [a0, hM, ← EReal.coe_add]) (by rw [a1, hM, ← EReal.coe_add]) (by rw [a2, hM, ← EReal.coe_add])
      (by rw [a3, hM, ← EReal.coe_add]) (by rw [a4, hM, ← EReal.coe_add])]
    split
    · exact hg _
    · rfl
  have pick : ∀ (r : Fin 5) (p a : FVec Ideal S1x40 .f32) (_ : (p (ix2 0 l) : EReal) = (P r : EReal))
      (_ : (a (ix2 0 l) : EReal) = ((c r + lse fun i => G r i + d r i : ℝ) : EReal)),
      (k1_pay28 (F := Ideal) ln p i a (ix2 0 l) : EReal)
      = ((if IntOp.cmpi .eq i (ln (ix2 0 l)) = 1#1 then c r + lse fun i => G r i + d r i else P r : ℝ) : EReal) := by
    intro r p a hp ha
    rw [pick_at]
    split
    · exact ha
    · exact hp
  exact ⟨row 0 g0 h0, row 1 g1 h1, row 2 g2 h2, row 3 g3 h3, row 4 g4 h4,
    pick 0 p0 _ q0 a0, pick 1 p1 _ q1 a1, pick 2 p2 _ q2 a2, pick 3 p3 _ q3 a3, pick 4 p4 _ q4 a4⟩

/-- The step counter against a length. -/
theorem counter_eq (k L : ℕ) (hk : k < 8192) (hL : L ≤ 8192) :
    IntOp.cmpi .eq (Scf.iv 1#32 1#32 k) (BitVec.ofNat 32 L) = 1#1 ↔ k + 1 = L := by
  rw [show Scf.iv 1#32 1#32 k = BitVec.ofNat 32 (k + 1) from by
    apply BitVec.eq_of_toNat_eq; simp [Scf.iv]; omega]
  word_cmp

section

variable (x0 : Vec Ideal S5x8209x40 .f32) (x1 : Vec Ideal S5x16x40 .f32) (x2 : Vec Ideal S5x5x40 .f32) (x3 : Vec Ideal S5x40 .f32)
  (x4 : Vec Ideal S1x40 .i32) (l : Fin 40) (cu : ℕ → Fin 5 → ℝ) (tr : Fin 5 → Fin 5 → ℝ) (st : Fin 5 → ℝ) (du : Fin 5 → Fin 16 → ℝ) (ng : ℝ) (L : ℕ)

/-- A lane before trip `n` holds the relative scores of step `n` and, once the length is reached, the scores there. -/
theorem dpSt_lane (hc0 : ∀ c, cu 0 c = 0) (hn : Ideal.ofBits .f32 0xF149F2CA#32 = (ng : EReal)) (hL : L ≤ 8192) (hL0 : 1 ≤ L)
    (h0 : ∀ r k, 16 ≤ k.val → (x0 (ix3 r k l) : EReal) = (cu (k.val - 16) (cls l - r) : EReal))
    (h1 : ∀ r i, (x1 (ix3 r i l) : EReal) = (du (cls l - r) i.rev : EReal))
    (h2 : ∀ r p, (x2 (ix3 r p l) : EReal) = (tr (cls l - p) (cls l - r) : EReal))
    (h3 : ∀ r, (x3 (ix2 r l) : EReal) = (st (cls l - r) : EReal))
    (h4 : x4 (ix2 0 l) = BitVec.ofNat 32 L) (n : ℕ) (hn8 : n ≤ 8192) :
    Lane (dpSt x0 x1 x2 x3 x4 n) l (fun r i => rel cu tr st du ng n i (cls l - r))
      (fun r => if L ≤ n then al cu tr st du ng (L - 1) (cls l - r) else ng) := by
  induction n with
  | zero =>
    have := Lane.init x3 l ng hn (fun r => st (cls l - r)) h3
    convert this using 1
    · rfl
    · funext r i; exact rel_zero cu tr st du ng hc0 i _
    · funext r; rw [if_neg (by omega)]
  | succ n ih =>
    have ht : k1_t1_loop.trips = 8192 := by decide
    have hlt : n < k1_t1_loop.trips := by rw [ht]; omega
    rw [dpSt, dif_pos hlt]
    have hA : ∀ r, cu (n + 1) (cls l - r) + lse (fun i => rel cu tr st du ng n i (cls l - r) + du (cls l - r) i.rev)
        = al cu tr st du ng n (cls l - r) := fun r => al_rel cu tr st du ng n (cls l - r)
    have := (ih (by omega)).trip (curLd x0 ⟨n, hlt⟩) (durTab x1) (cfTab x2) (lenRow (F := Ideal) x4) (Scf.iv 1#32 1#32 n)
      (fun r => cu (n + 1) (cls l - r)) (fun r i => du (cls l - r) i.rev) (fun r p => tr (cls l - p) (cls l - r))
      (fun r => by
        rw [cur_at x0 ⟨n, hlt⟩ r l (by simp only; omega), h0 _ _ (by simp only; omega)]
        congr 2)
      (fun r i => by rw [dur_at, h1]) (fun r p => by rw [cf_at, h2])
    simp only [hA] at this
    convert this using 1
    · funext r i
      by_cases h : i.val < 15
      · rw [dif_pos h]; exact rel_shift cu tr st du ng n i _ h
      · rw [dif_neg h, rel_last cu tr st du ng n i _ h]
        exact congrArg (· - _) (lse_equiv (Equiv.subLeft (cls l)) fun p => al cu tr st du ng n p + tr p (cls l - r)).symm
    · funext r
      rw [len_at, h4]
      have e := counter_eq n L (by omega) hL
      by_cases h : n + 1 = L
      · rw [if_pos (e.mpr h), if_pos (by omega), ← h]; rfl
      · rw [if_neg (fun q => h (e.mp q))]
        by_cases h' : L ≤ n
        · rw [if_pos h', if_pos (by omega)]
        · rw [if_neg h', if_neg (by omega)]

/-- The stored row at a lane: the logarithm of the sum, over the classes, of the scores at the length. -/
theorem dpRow_lane (hc0 : ∀ c, cu 0 c = 0) (hn : Ideal.ofBits .f32 0xF149F2CA#32 = (ng : EReal)) (hL : L ≤ 8192) (hL0 : 1 ≤ L)
    (h0 : ∀ r k, 16 ≤ k.val → (x0 (ix3 r k l) : EReal) = (cu (k.val - 16) (cls l - r) : EReal))
    (h1 : ∀ r i, (x1 (ix3 r i l) : EReal) = (du (cls l - r) i.rev : EReal))
    (h2 : ∀ r p, (x2 (ix3 r p l) : EReal) = (tr (cls l - p) (cls l - r) : EReal))
    (h3 : ∀ r, (x3 (ix2 r l) : EReal) = (st (cls l - r) : EReal))
    (h4 : x4 (ix2 0 l) = BitVec.ofNat 32 L) :
    (dpRow (F := Ideal) (dpSt x0 x1 x2 x3 x4 8192) (ix2 0 l) : EReal) = ((lse fun c => al cu tr st du ng (L - 1) c : ℝ) : EReal) := by
  have := dpSt_lane x0 x1 x2 x3 x4 l cu tr st du ng L hc0 hn hL hL0 h0 h1 h2 h3 h4 8192 le_rfl
  simp only [if_pos hL] at this
  refine (row_at _ _ _ _ _ l (fun r => al cu tr st du ng (L - 1) (cls l - r)) this.p0 this.p1 this.p2 this.p3 this.p4).trans ?_
  exact congrArg _ (lse_equiv (Equiv.subLeft (cls l)) fun p => al cu tr st du ng (L - 1) p)

end

end Cert.KernelIdeal.Own
-- ==== Proof.KernelValue.lean ====
/- The values the kernel's run leaves in its two results. -/
module

public import proofs.«01_k».proof.Proof.DpValue
public import proofs.«01_k».proof.Proof.FrameIdeal

@[expose] public section

noncomputable section

namespace Cert.KernelIdeal.Own

open Cert.Spec

open Idealize.ShloMosaic Idealize.ShloMosaic.TcCoe Idealize.SL.Sem Cert.KernelIdeal Cert.KernelIdeal.Gen

/-- The second launch's windows all start at zero. -/
theorem idx1 : ∀ t : Fin cfg1.N, (∀ a, win1_0.index t a = 0) ∧ (∀ a, win1_1.index t a = 0) ∧ (∀ a, win1_2.index t a = 0) ∧ (∀ a, win1_3.index t a = 0)
    ∧ (∀ a, win1_4.index t a = 0) ∧ (∀ a, win1_5.index t a = 0) :=
  (by decide +kernel : ∀ t : Fin grid1.N, _)

section
variable (W : Dev nD → Valuation τ sig (Elt Ideal)) (c : Dev nD) (t : Fin cfg1.N)

/-- The block of the second launch's first operand is the whole operand. -/
theorem dp0_at (r : Fin 5) (k : Fin 8209) (l : Fin 40) : dpBlk W c 0 t (ix3 r k l) = W c (Proc.devRef .tc main_v23) (ix3 r k l) := by
  have e := (idx1 t).1
  show W c (Proc.devRef .tc main_v23) (((cfg1.win 0).blk t).view.emb (ix3 r k l)) = _
  congr 1; funext a; apply Fin.ext
  match a with
  | ⟨0, _⟩ => show win1_0.index t (0 : Fin 3) * 5 + 1 * r.val = r.val; have := e 0; omega
  | ⟨1, _⟩ => show win1_0.index t (1 : Fin 3) * 8209 + 1 * k.val = k.val; have := e 1; omega
  | ⟨2, _⟩ => show win1_0.index t (2 : Fin 3) * 40 + 1 * l.val = l.val; have := e 2; omega
/-- The block of the second launch's second operand is the whole operand. -/
theorem dp1_at (r : Fin 5) (k : Fin 16) (l : Fin 40) : dpBlk W c 1 t (ix3 r k l) = W c (Proc.devRef .tc main_v35) (ix3 r k l) := by
  have e := (idx1 t).2.1
  show W c (Proc.devRef .tc main_v35) (((cfg1.win 1).blk t).view.emb (ix3 r k l)) = _
  congr 1; funext a; apply Fin.ext
  match a with
  | ⟨0, _⟩ => show win1_1.index t (0 : Fin 3) * 5 + 1 * r.val = r.val; have := e 0; omega
  | ⟨1, _⟩ => show win1_1.index t (1 : Fin 3) * 16 + 1 * k.val = k.val; have := e 1; omega
  | ⟨2, _⟩ => show win1_1.index t (2 : Fin 3) * 40 + 1 * l.val = l.val; have := e 2; omega
/-- The block of the second launch's third operand is the whole operand. -/
theorem dp2_at (r : Fin 5) (k : Fin 5) (l : Fin 40) : dpBlk W c 2 t (ix3 r k l) = W c (Proc.devRef .tc main_v65) (ix3 r k l) := by
  have e := (idx1 t).2.2.1
  show W c (Proc.devRef .tc main_v65) (((cfg1.win 2).blk t).view.emb (ix3 r k l)) = _
  congr 1; funext a; apply Fin.ext
  match a with
  | ⟨0, _⟩ => show win1_2.index t (0 : Fin 3) * 5 + 1 * r.val = r.val; have := e 0; omega
  | ⟨1, _⟩ => show win1_2.index t (1 : Fin 3) * 5 + 1 * k.val = k.val; have := e 1; omega
  | ⟨2, _⟩ => show win1_2.index t (2 : Fin 3) * 40 + 1 * l.val = l.val; have := e 2; omega
/-- The block of the second launch's fourth operand is the whole operand. -/
theorem dp3_at (r : Fin 5) (l : Fin 40) : dpBlk W c 3 t (ix2 r l) = W c (Proc.devRef .tc main_v74) (ix2 r l) := by
  have e := (idx1 t).2.2.2.1
  show W c (Proc.devRef .tc main_v74) (((cfg1.win 3).blk t).view.emb (ix2 r l)) = _
  congr 1; funext a; apply Fin.ext
  match a with
  | ⟨0, _⟩ => show win1_3.index t (0 : Fin 2) * 5 + 1 * r.val = r.val; have := e 0; omega
  | ⟨1, _⟩ => show win1_3.index t (1 : Fin 2) * 40 + 1 * l.val = l.val; have := e 1; omega
/-- The block of the second launch's fifth operand is the whole operand. -/
theorem dp4_at (l : Fin 40) : dpBlk W c 4 t (ix2 0 l) = W c (Proc.devRef .tc main_v78) (ix2 0 l) := by
  have e := (idx1 t).2.2.2.2.1
  show W c (Proc.devRef .tc main_v78) (((cfg1.win 4).blk t).view.emb (ix2 0 l)) = _
  congr 1; funext a; apply Fin.ext
  match a with
  | ⟨0, _⟩ => show win1_4.index t (0 : Fin 2) * 1 + 1 * 0 = 0; have := e 0; omega
  | ⟨1, _⟩ => show win1_4.index t (1 : Fin 2) * 40 + 1 * l.val = l.val; have := e 1; omega

end

variable (m : (ℓ : Loc nD τ sig) → Buf (Elt Ideal) ℓ) (c : Dev nD) (hA : Real? (argsOf m c)) (hl : Len? (argsOf m c))

include hA hl in
/-- The row the recursion stores, at a lane. -/
theorem dpOut_at (t : Fin cfg1.N) (l : Fin 40) :
    (dpOut (V9 m (outsA m)) c t (ix2 0 l) : EReal) = (part (argsOf m c) (bat l) : EReal) := by
  refine dpRow_lane _ _ _ _ _ l (cuR (argsOf m c) (bat l)) (trR (argsOf m c)) (stR (argsOf m c)) (duR (argsOf m c)) ngR
    ((argsOf m c).len (bat l)).toNat (cuR_zero _ _) ngR_eq (hl _).2 (hl _).1 (fun r k hk => ?_) (fun r i => ?_) (fun r p => ?_) (fun r => ?_) ?_
  · rw [dp0_at, V9_cumt, if_neg (by omega)]; exact (hA.cum _ _ _).coe_toReal
  · rw [dp1_at, V9_dur]; exact (hA.du _ _).coe_toReal
  · rw [dp2_at, V9_trans]; exact (hA.tr _ _).coe_toReal
  · rw [dp3_at, V9_start]; exact (hA.st _).coe_toReal
  · rw [dp4_at, V9_len]; exact (BitVec.ofNat_toNat _ _ ▸ (BitVec.setWidth_eq _).symm)

/-- The row the second launch leaves. -/
def dpG : Buf (Elt Ideal) ((c : Thread nD τ).loc main_v79) := fun i : S1x40.Idx => (part (argsOf m c) (bat (i 1)) : EReal)

include hA hl in
/-- What the second launch leaves in its result. -/
theorem dpArr : (dpDat (V9 m (outsA m)) c).arrAt 5 cfg1.N = dpG m c := by
  refine (dpDat (V9 m (outsA m)) c).arrAt_eq_of_covers 5 _ (by decide +kernel) fun t hf y => ?_
  have e := (idx1 t).2.2.2.2.2
  have a1 : ((((cfg1.win 5).blk t).view.emb y : S1x40.Idx) 1).val = win1_5.index t (1 : Fin 2) * 40 + 1 * (y 1).val := rfl
  have e1 := e 1
  have hy : (y : S1x40.Idx) = ix2 0 (y 1) := by
    refine (eq_ix2 (n0 := 1) (n1 := 40) y).trans ?_
    rw [Subsingleton.elim (α := Fin 1) (y 0) 0]
    rfl
  show dpOut (V9 m (outsA m)) c t y = dpG m c (((cfg1.win 5).blk t).view.emb y)
  refine (congrArg (dpOut (V9 m (outsA m)) c t) hy).trans ?_
  refine (dpOut_at m c hA hl t (y 1)).trans ?_
  refine congrArg (fun l => (part (argsOf m c) (bat l) : EReal)) (Fin.ext ?_)
  show (y 1).val = ((((cfg1.win 5).blk t).view.emb y : S1x40.Idx) 1).val
  omega

include hA hl in
/-- What the second launch's buffer holds when the last host stretch reads it. -/
theorem V10_main_v79 : V10 m (outs m) c (Proc.devRef .tc main_v79) = dpG m c :=
  (Function.update_self (f := V9 m (outs m) c) (a := Proc.devRef .tc main_v79) (outs m 10 main_v79 c)).trans <|
    (Pipeline.afterRegion_arr (dpDat (V9 m (outsA m)) c) (V9 m (outsA m) c) winFacts1.arr_inj 5).trans (dpArr m c hA hl)

include hA hl in
/-- The first result: the score of every sequence. -/
theorem V11_part : V11 m (outs m) c (Proc.devRef .tc main_v81) = fun i : S8.Idx => (part (argsOf m c) (i 0) : EReal) := by
  funext (i : S8.Idx)
  obtain ⟨b, rfl⟩ : ∃ b, i = ix1 b := ⟨_, eq_ix1 i⟩
  refine (part_after _ b).trans ((congrFun (V10_main_v79 m c hA hl) _).trans ?_)
  refine congrArg (fun b => (part (argsOf m c) b : EReal)) (Fin.ext ?_)
  show b.val % 8 = b.val
  omega

/-- The second result: the prefix sums of the emission scores. -/
theorem V11_cum : V11 m (outs m) c (Proc.devRef .tc main_v4) = fun i : S8x8193x5.Idx => cum (argsOf m c) (i 0) (i 1).val (i 2) := by
  refine (V11_of m _ c main_v4 (by decide)).trans ((V10_of m _ c main_v4 (by decide)).trans ?_)
  rw [V9_outs]
  refine (V9_V5 m c main_v4 (by decide) (by decide) (by decide) (by decide)).trans ((V5_of m _ c main_v4 (by decide)).trans ((V4_of m _ c main_v4 (by decide)).trans ?_))
  funext (i : S8x8193x5.Idx)
  obtain ⟨b, n, d, rfl⟩ : ∃ b n d, i = ix3 b n d := ⟨_, _, _, eq_ix3 i⟩
  exact V3_cum m c _ _ _

end Cert.KernelIdeal.Own
-- ==== Proof.RefCum.lean ====
/- The reference's prefix sums: what its stretches before the scan leave. -/
module

public import proofs.«01_k».proof.Proof.RefRun
public import proofs.«01_k».proof.Proof.Spec
public import Idealize.ShloMosaic.Lib.Pointwise
public import Idealize.ShloMosaic.Lib.StableHlo.ReadAt

@[expose] public section

noncomputable section

namespace Cert.ReferenceIdeal.Own

open Idealize.ShloMosaic Idealize.ShloMosaic.TcCoe Idealize.SL.Sem Cert.ReferenceIdeal Cert.ReferenceIdeal.Gen

/-- A left fold of additions is a sum. -/
theorem foldl_sum {α : Type} (g : α → EReal) (l : List α) : ∀ v : EReal, l.foldl (fun r n => r + g n) v = v + (l.map g).sum := by
  induction l with
  | nil => intro v; simp
  | cons a l ih => intro v; simp only [List.foldl_cons, ih, List.map_cons, List.sum_cons, add_assoc]

/-- The sum over a window one column wide. -/
theorem window_sum {N : ℕ} (g : (⟨3, ![1, N, 1]⟩ : Shape).Idx → EReal) :
    ((List.finRange (⟨3, ![1, N, 1]⟩ : Shape).numel).map fun n => g ((⟨3, ![1, N, 1]⟩ : Shape).rowMajor.symm n)).sum
      = ∑ k : Fin N, g (ix3 0 k 0) := by
  rw [← Fin.sum_univ_def, Equiv.sum_comp (⟨3, ![1, N, 1]⟩ : Shape).rowMajor.symm g]
  refine (Finset.sum_bij' (fun k _ => ix3 0 k 0) (fun p _ => p 1) ?_ ?_ ?_ ?_ ?_).symm
  · intros; exact Finset.mem_univ _
  · intros; exact Finset.mem_univ _
  · intros; rfl
  · intro p _
    refine Eq.trans ?_ (eq_ix3 (n0 := 1) (n1 := N) (n2 := 1) p).symm
    rw [Subsingleton.elim (α := Fin 1) (p 0) 0, Subsingleton.elim (α := Fin 1) (p 2) 0]
  · intros; rfl

/-- The windowed sum of the reference's running total, at an index. -/
theorem running_at {N M : ℕ} (hM : M + 1 = N) (x : FVec Ideal ⟨3, ![8, N, 5]⟩ .f32) (init : FVec Ideal ⟨0, ![]⟩ .f32) (hi : ∀ i, (init i : EReal) = 0) (f : ℕ → EReal)
    (b : Fin 8) (n : Fin N) (c : Fin 5) (hx : ∀ k : Fin N, (x (ix3 b k c) : EReal) = f k.val)
    (h : (⟨3, ![8, N, 5]⟩ : Shape).ReduceWindows ![1, N, 1] ![1, 1, 1] ![0, M, 0] ![0, 0, 0] ⟨3, ![8, N, 5]⟩) (hu : 0 < (⟨0, ![]⟩ : Shape).numel) :
    (Host.reduceWindowAdd (F := Ideal) ![1, N, 1] ![1, 1, 1] ![0, M, 0] ![0, 0, 0] x init h hu (ix3 b n c) : EReal)
      = ∑ j ∈ Finset.range (n.val + 1), f j := by
  unfold Host.reduceWindowAdd
  rw [Ideal.hostReduceWindowAdd_def]
  unfold Ideal.hostReduceWindowAdd Host.reduceWindow
  dsimp only
  rw [show init (Shape.Idx.first hu) = (0 : EReal) from hi _]
  refine (foldl_sum (fun k => _) _ 0).trans ?_
  rw [zero_add]
  refine (congrArg List.sum (List.map_congr_left (g := fun k => (fun p : (⟨3, ![1, N, 1]⟩ : Shape).Idx => (if M ≤ n.val + (p 1).val then f (n.val + (p 1).val - M) else (0 : EReal)))
    ((⟨3, ![1, N, 1]⟩ : Shape).rowMajor.symm k)) fun k _ => ?_)).trans ((window_sum (N := N) (fun p => (if M ≤ n.val + (p 1).val then f (n.val + (p 1).val - M) else (0 : EReal)))).trans ?_)
  · have hb := b.isLt
    have hc := c.isLt
    have p0 : ((⟨3, ![1, N, 1]⟩ : Shape).rowMajor.symm k 0).val < 1 := ((⟨3, ![1, N, 1]⟩ : Shape).rowMajor.symm k 0).isLt
    have p1 : ((⟨3, ![1, N, 1]⟩ : Shape).rowMajor.symm k 1).val < N := ((⟨3, ![1, N, 1]⟩ : Shape).rowMajor.symm k 1).isLt
    have p2 : ((⟨3, ![1, N, 1]⟩ : Shape).rowMajor.symm k 2).val < 1 := ((⟨3, ![1, N, 1]⟩ : Shape).rowMajor.symm k 2).isLt
    have hn := n.isLt
    show _ = if _ then _ else _
    by_cases hk : M ≤ n.val + ((⟨3, ![1, N, 1]⟩ : Shape).rowMajor.symm k 1).val
    · rw [if_pos hk, dif_pos (by
        intro a
        match a with
        | ⟨0, _⟩ => show 0 ≤ b.val * 1 + ((⟨3, ![1, N, 1]⟩ : Shape).rowMajor.symm k 0).val ∧ b.val * 1 + ((⟨3, ![1, N, 1]⟩ : Shape).rowMajor.symm k 0).val - 0 < 8; omega
        | ⟨1, _⟩ => show M ≤ n.val * 1 + ((⟨3, ![1, N, 1]⟩ : Shape).rowMajor.symm k 1).val ∧ n.val * 1 + ((⟨3, ![1, N, 1]⟩ : Shape).rowMajor.symm k 1).val - M < N; omega
        | ⟨2, _⟩ => show 0 ≤ c.val * 1 + ((⟨3, ![1, N, 1]⟩ : Shape).rowMajor.symm k 2).val ∧ c.val * 1 + ((⟨3, ![1, N, 1]⟩ : Shape).rowMajor.symm k 2).val - 0 < 5; omega)]
      refine Eq.trans (congrArg x ?_) (hx ⟨n.val + ((⟨3, ![1, N, 1]⟩ : Shape).rowMajor.symm k 1).val - M, by omega⟩)
      funext a; apply Fin.ext
      match a with
      | ⟨0, _⟩ => show b.val * 1 + ((⟨3, ![1, N, 1]⟩ : Shape).rowMajor.symm k 0).val - 0 = b.val; omega
      | ⟨1, _⟩ => show n.val * 1 + ((⟨3, ![1, N, 1]⟩ : Shape).rowMajor.symm k 1).val - M = n.val + ((⟨3, ![1, N, 1]⟩ : Shape).rowMajor.symm k 1).val - M; omega
      | ⟨2, _⟩ => show c.val * 1 + ((⟨3, ![1, N, 1]⟩ : Shape).rowMajor.symm k 2).val - 0 = c.val; omega
    · rw [if_neg hk, dif_neg]
      intro hin
      have : M ≤ n.val * 1 + ((⟨3, ![1, N, 1]⟩ : Shape).rowMajor.symm k 1).val := (hin 1).1
      omega
  refine (Fin.sum_univ_eq_sum_range (fun k : ℕ => if M ≤ n.val + k then f (n.val + k - M) else 0) N).trans ?_
  have hn := n.isLt
  rw [show Finset.range N = Finset.range ((M - n.val) + (n.val + 1)) from congrArg _ (by omega), Finset.sum_range_add]
  rw [Finset.sum_eq_zero, zero_add]
  · refine Finset.sum_congr rfl fun j _ => ?_
    rw [if_pos (by omega)]
    congr 1
    omega
  · intro j hj
    have := Finset.mem_range.mp hj
    rw [if_neg (by omega)]

/-- The arguments of the reference, as plain functions. -/
def argsOf (m : (ℓ : Loc nD τ sig) → Buf (Elt Ideal) ℓ) (c : Dev nD) : Spec.Args where
  x b j q := m (c.tc.loc main_arg0) (ix3 b j q)
  len b := m (c.tc.loc main_arg1) (ix1 b)
  we q k := m (c.tc.loc main_arg2) (ix2 q k)
  be k := m (c.tc.loc main_arg3) (ix1 k)
  wp k d := m (c.tc.loc main_arg4) (ix2 k d)
  bp d := m (c.tc.loc main_arg5) (ix1 d)
  tr p q := m (c.tc.loc main_arg6) (ix2 p q)
  st d := m (c.tc.loc main_arg7) (ix1 d)
  du d j := m (c.tc.loc main_arg8) (ix2 d j)

/-- A valuation that holds the given arguments. -/
structure Holds (A : Spec.Args) (V : Valuation τ sig (Elt Ideal)) : Prop where
  x : ∀ b j q, V (Proc.devRef .tc main_arg0) (ix3 b j q) = A.x b j q
  len : ∀ b, V (Proc.devRef .tc main_arg1) (ix1 b) = A.len b
  we : ∀ q k, V (Proc.devRef .tc main_arg2) (ix2 q k) = A.we q k
  be : ∀ k, V (Proc.devRef .tc main_arg3) (ix1 k) = A.be k
  wp : ∀ k d, V (Proc.devRef .tc main_arg4) (ix2 k d) = A.wp k d
  bp : ∀ d, V (Proc.devRef .tc main_arg5) (ix1 d) = A.bp d
  tr : ∀ p q, V (Proc.devRef .tc main_arg6) (ix2 p q) = A.tr p q
  st : ∀ d, V (Proc.devRef .tc main_arg7) (ix1 d) = A.st d
  du : ∀ d j, V (Proc.devRef .tc main_arg8) (ix2 d j) = A.du d j

section
variable (A : Spec.Args) (V : Valuation τ sig (Elt Ideal))

/-- The reference's emission scores. -/
theorem emi_after (h : Holds A V) (b : Fin 8) (n : Fin 8192) (c : Fin 5) :
    StableHlo.after hostOps0 V (Proc.devRef .tc main_v20) (ix3 b n c) = Spec.emi A b n c := by
  after_reads_at
  simp only [h.x, h.we, h.be, h.wp, h.bp]
  unfold Spec.emi Spec.act
  simp only [mul_assoc]
/-- The row in front of the running sums is zero. -/
theorem zeros_after (b : Fin 8) (n : Fin 1) (c : Fin 5) :
    StableHlo.after hostOps0 V (Proc.devRef .tc main_v21) (ix3 b n c) = (0 : EReal) := by
  after_reads_at

/-- Its running totals. -/
theorem run_after (he : ∀ b n c, V (Proc.devRef .tc main_v20) (ix3 b n c) = Spec.emi A b n c) (b : Fin 8) (n : Fin 8192) (c : Fin 5) :
    StableHlo.after hostOps0_1 V (Proc.devRef .tc main_v22) (ix3 b n c) = Spec.cum A b (n.val + 1) c := by
  after_reads_at
  refine running_at (N := 8192) (M := 8191) rfl _ _ (fun i => ?_) (fun j => Spec.emiN A b j c) b n c (fun k => ?_) _ _
  · rw [ValueIdx.eq_ix0 i]; pointwise
  · refine (he b k c).trans ?_
    unfold Spec.emiN
    rw [dif_pos k.isLt]

/-- … and with the row of zeros in front. -/
theorem cum_after (h0 : ∀ b n c, V (Proc.devRef .tc main_v21) (ix3 b n c) = (0 : EReal))
    (hr : ∀ (b : Fin 8) (n : Fin 8192) (c : Fin 5), V (Proc.devRef .tc main_v22) (ix3 b n c) = Spec.cum A b (n.val + 1) c) (b : Fin 8) (n : Fin 8193) (c : Fin 5) :
    StableHlo.after hostOps0_2 V (Proc.devRef .tc main_v23) (ix3 b n c) = Spec.cum A b n.val c := by
  after_reads_at
  split
  · rename_i h; rw [h0, show n.val = 0 by omega, Spec.cum_zero]
  · rename_i h
    rw [hr]
    show Spec.cum A b (n.val - 1 + 1) c = _
    rw [show n.val - 1 + 1 = n.val by omega]

end

end Cert.ReferenceIdeal.Own
-- ==== Proof.RefTrip.lean ====
/- One trip of the reference's loop, read index by index. -/
module

public import proofs.«01_k».proof.Proof.RefCum
public import proofs.«01_k».proof.Proof.RefRun
public import proofs.«01_k».proof.Proof.SpecScan

@[expose] public section

noncomputable section

namespace Cert.ReferenceIdeal.Own

open Idealize.ShloMosaic Idealize.ShloMosaic.TcCoe Idealize.SL.Sem Cert.ReferenceIdeal Cert.ReferenceIdeal.Gen Cert.ReferenceIdeal.Value
open Cert.Spec Idealize.ShloMosaic.StableHlo

variable (V : Valuation τ sig (Elt Ideal))
/-- A step number as a word reads back, signed, as itself. -/
theorem step_word (k : ℕ) (hk : k < 8192) : (BitVec.ofNat 32 k).toInt = k := by
  rw [BitVec.toInt_eq_toNat_of_lt] <;> rw [BitVec.toNat_ofNat, Nat.mod_eq_of_lt (by omega)]
  omega

/-- A start on an axis taken whole is zero. -/
theorem start_whole (s t : Shape) (ht : t.rank = s.rank) (start : Fin s.rank → Int) (a : Fin s.rank) (h : t.size (a.cast ht.symm) = s.size a) :
    Host.clampedStart s t ht start a = 0 := by
  unfold Host.clampedStart; omega

/-- One step's slice of the totals. -/
theorem slice_cur (x : S8192x8x5.Idx → EReal) (start : Fin 3 → Int) (k : ℕ) (hk : k < 8192) (hs : start 0 = k) (h) (h') (b : Fin 8) (c : Fin 5) :
    shapeCast S8x5 (Host.dynamicSlice (s := S8192x8x5) S1x8x5 x start h) h' (ix2 b c) = x (ix3 ⟨k, hk⟩ b c) := by
  pointwise
  have e0 := Host.clampedStart_of_le (s := S8192x8x5) (t := S1x8x5) h.1 start 0 k hs (by show k + 1 ≤ 8192; omega)
  have e1 := start_whole S8192x8x5 S1x8x5 h.1 start 1 rfl
  have e2 := start_whole S8192x8x5 S1x8x5 h.1 start 2 rfl
  refine congrArg x (congr (congr (congrArg ix3 (Fin.ext ?_)) (Fin.ext ?_)) (Fin.ext ?_)) <;> simp only [e0, e1, e2, Nat.zero_add, Fin.val_zero, Nat.add_zero]

/-- One step's slice of the sixteen earlier totals. -/
theorem slice_prev (x : S8192x8x16x5.Idx → EReal) (start : Fin 4 → Int) (k : ℕ) (hk : k < 8192) (hs : start 0 = k) (h) (h') (b : Fin 8) (j : Fin 16) (c : Fin 5) :
    shapeCast S8x16x5 (Host.dynamicSlice (s := S8192x8x16x5) S1x8x16x5 x start h) h' (ix3 b j c) = x (ix4 ⟨k, hk⟩ b j c) := by
  pointwise
  have e0 := Host.clampedStart_of_le (s := S8192x8x16x5) (t := S1x8x16x5) h.1 start 0 k hs (by show k + 1 ≤ 8192; omega)
  have e1 := start_whole S8192x8x16x5 S1x8x16x5 h.1 start 1 rfl
  have e2 := start_whole S8192x8x16x5 S1x8x16x5 h.1 start 2 rfl
  have e3 := start_whole S8192x8x16x5 S1x8x16x5 h.1 start 3 rfl
  refine congrArg x (congr (congr (congr (congrArg ix4 (Fin.ext ?_)) (Fin.ext ?_)) (Fin.ext ?_)) (Fin.ext ?_)) <;> simp only [e0, e1, e2, e3, Nat.zero_add, Fin.val_zero, Nat.add_zero]

/-- Writing one step's scores changes that step alone. -/
theorem put_at (x : S8192x8x5.Idx → EReal) (u : S1x8x5.Idx → EReal) (start : Fin 3 → Int) (k : ℕ) (hk : k < 8192) (hs : start 0 = k) (h) (t : Fin 8192) (b : Fin 8) (c : Fin 5) :
    Host.dynamicUpdateSlice (s := S8192x8x5) (u := S1x8x5) x u start h (ix3 t b c) = if t.val = k then u (ix3 0 b c) else x (ix3 t b c) := by
  pointwise
  have e0 := Host.clampedStart_of_le (s := S8192x8x5) (t := S1x8x5) h.1 start 0 k hs (by show k + 1 ≤ 8192; omega)
  have e1 := start_whole S8192x8x5 S1x8x5 h.1 start 1 rfl
  have e2 := start_whole S8192x8x5 S1x8x5 h.1 start 2 rfl
  simp only [e0, e1, e2]
  by_cases e : t.val = k
  · rw [if_pos e]
    refine (dif_pos ⟨by omega, by omega, by omega⟩).trans ?_
    refine congrArg u (congr (congr (congrArg ix3 (Fin.ext ?_)) (Fin.ext ?_)) (Fin.ext ?_)) <;> simp [e]
  · rw [if_neg e]
    exact dif_neg fun q => e (by omega)

section
variable (k : ℕ) (hk : k < 8192) (hV : V (Proc.devRef .tc main_v68_4) = fun _ => BitVec.ofNat 32 k)

include hV in
/-- The trip's cumulative scores: row `k`. -/
theorem cur_read (b : Fin 8) (c : Fin 5) : StableHlo.after while0Ops0 V (Proc.devRef .tc main_while0b_v99) (ix2 b c) = V (Proc.devRef .tc main_v68_0) (ix3 ⟨k, hk⟩ b c) := by
  after_results
  refine slice_cur _ _ k hk ?_ sliceFits_S8192x8x5_S1x8x5 shapeCasts_S1x8x5_S8x5 b c
  change BitVec.toInt (V (Proc.devRef .tc main_v68_4) (Shape.Idx.first h_S_)) = k
  rw [hV]
  exact step_word k hk

include hV in
/-- The trip's earlier cumulative scores: row `k`. -/
theorem prev_read (b : Fin 8) (j : Fin 16) (c : Fin 5) : StableHlo.after while0Ops0_1 V (Proc.devRef .tc main_while0b_v100) (ix3 b j c) = V (Proc.devRef .tc main_v68_1) (ix4 ⟨k, hk⟩ b j c) := by
  after_results
  refine slice_prev _ _ k hk ?_ sliceFits_S8192x8x16x5_S1x8x16x5 shapeCasts_S1x8x16x5_S8x16x5 b j c
  change BitVec.toInt (V (Proc.devRef .tc main_v68_4) (Shape.Idx.first h_S_)) = k
  rw [hV]
  exact step_word k hk

include hV in
/-- The scores after the trip: row `k` is replaced. -/
theorem put_read (hk : k < 8192) (t : Fin 8192) (b : Fin 8) (c : Fin 5) : StableHlo.after while0Ops0_7 V (Proc.devRef .tc main_while0b_v142) (ix3 t b c)
    = if t.val = k then V (Proc.devRef .tc main_while0b_v120) (ix2 b c) else V (Proc.devRef .tc main_v68_6) (ix3 t b c) := by
  after_results
  refine (put_at _ (broadcastInDim S1x8x5 ![1, 2] bcast_S8x5_S1x8x5_1_2 (V (Proc.devRef .tc main_while0b_v120))) _ k hk ?_ updateFits_S8192x8x5_S1x8x5 t b c).trans ?_
  · change BitVec.toInt (V (Proc.devRef .tc main_v68_4) (Shape.Idx.first h_S_)) = k
    rw [hV]
    exact step_word k hk
  · pointwise
    rfl
end

/-- A choice between two reals is a real. -/
theorem select_real (p : BitVec 1) {x y : EReal} (hx : Fin? x) (hy : Fin? y) : Fin? (Scalar.select p x y) := by
  unfold Scalar.select; split
  · exact hx
  · exact hy

/-- The reference's form of the logarithm of a sum: whatever real number is taken off is added back. -/
theorem lse_ref {n : ℕ} {g : Fin (n + 1) → EReal} (f : Fin (n + 1) → ℝ) (h : ∀ k, g k = (f k : EReal)) {m : EReal} (hm : Fin? m) :
    Ideal.log (∑ k, Ideal.exp (g k - m)) + m = (lse f : EReal) := by
  obtain rfl : g = fun k => (f k : EReal) := funext h
  obtain ⟨r, rfl⟩ := hm
  rw [add_comm]
  exact lse_shift r f

/-- The terms whose logarithm of a sum is a step's score. -/
theorem arg_read (b : Fin 8) (j : Fin 16) (c : Fin 5) (w x y z : ℝ) (hw : V (Proc.devRef .tc main_v68_5) (ix3 b j c) = (w : EReal))
    (hx : V (Proc.devRef .tc main_while0b_v99) (ix2 b c) = (x : EReal)) (hy : V (Proc.devRef .tc main_while0b_v100) (ix3 b j c) = (y : EReal))
    (hz : V (Proc.devRef .tc main_v68_2) (ix2 j c) = (z : EReal)) :
    StableHlo.after while0Ops0_2 V (Proc.devRef .tc main_while0b_v107) (ix3 b j c) = ((w + (x - y) + z : ℝ) : EReal) := by
  rw [EReal.coe_add, EReal.coe_add, EReal.coe_sub, ← hw, ← hx, ← hy, ← hz]
  after_reads_at

/-- The greatest of these terms is a real. -/
theorem max_read (b : Fin 8) (c : Fin 5) (f : Fin 16 → ℝ)
    (hf : ∀ j, StableHlo.after while0Ops0_2 V (Proc.devRef .tc main_while0b_v107) (ix3 b j c) = (f j : EReal)) :
    Fin? (StableHlo.after while0Ops0_2 V (Proc.devRef .tc main_while0b_v109) (ix3 b 0 c)) := by
  have e : StableHlo.after while0Ops0_2 V (Proc.devRef .tc main_while0b_v109) (ix3 b 0 c)
      = Finset.fold max (Ideal.ofBits .f32 4286578688#32) (fun j => (StableHlo.after while0Ops0_2 V (Proc.devRef .tc main_while0b_v107) (ix3 b j c) : EReal)) Finset.univ := by
    after_reads_at
  rw [e, show (fun j => (StableHlo.after while0Ops0_2 V (Proc.devRef .tc main_while0b_v107) (ix3 b j c) : EReal)) = fun j => (f j : EReal) from funext hf]
  exact fold_max_real f

/-- The number that stands in for an infinite greatest term is zero. -/
theorem zero2_read : StableHlo.after while0Ops0_2 V (Proc.devRef .tc main_while0b_cst_25) ix0 = (0 : EReal) := by
  after_reads_at

/-- The number taken off the terms is a real. -/
theorem pick_read (b : Fin 8) (c : Fin 5) (h0 : V (Proc.devRef .tc main_while0b_cst_25) ix0 = (0 : EReal))
    (hm : Fin? (V (Proc.devRef .tc main_while0b_v109) (ix3 b 0 c))) :
    Fin? (StableHlo.after while0Ops0_3 V (Proc.devRef .tc main_while0b_v113) (ix3 b 0 c)) := by
  after_reads_at
  exact select_real _ hm ⟨0, h0⟩

/-- A step's score. -/
theorem alpha_read (b : Fin 8) (c : Fin 5) (f : Fin 16 → ℝ) (hf : ∀ j, V (Proc.devRef .tc main_while0b_v107) (ix3 b j c) = (f j : EReal))
    (hm : Fin? (V (Proc.devRef .tc main_while0b_v113) (ix3 b 0 c))) :
    StableHlo.after while0Ops0_4 V (Proc.devRef .tc main_while0b_v120) (ix2 b c) = (lse f : EReal) := by
  after_reads_at
  exact lse_ref f hf hm

/-- The terms of the transition. -/
theorem tran_read (b : Fin 8) (p c : Fin 5) (a t : ℝ) (ha : StableHlo.after while0Ops0_4 V (Proc.devRef .tc main_while0b_v120) (ix2 b p) = (a : EReal))
    (ht : V (Proc.devRef .tc main_v68_3) (ix2 p c) = (t : EReal)) :
    StableHlo.after while0Ops0_4 V (Proc.devRef .tc main_while0b_v125) (ix3 b p c) = ((a + t : ℝ) : EReal) := by
  rw [EReal.coe_add, ← ha, ← ht]
  after_reads_at

/-- The greatest of the transition's terms is a real. -/
theorem tmax_read (b : Fin 8) (c : Fin 5) (f : Fin 5 → ℝ)
    (hf : ∀ p, StableHlo.after while0Ops0_4 V (Proc.devRef .tc main_while0b_v125) (ix3 b p c) = (f p : EReal)) :
    Fin? (StableHlo.after while0Ops0_4 V (Proc.devRef .tc main_while0b_v127) (ix3 b 0 c)) := by
  have e : StableHlo.after while0Ops0_4 V (Proc.devRef .tc main_while0b_v127) (ix3 b 0 c)
      = Finset.fold max (Ideal.ofBits .f32 4286578688#32) (fun p => (StableHlo.after while0Ops0_4 V (Proc.devRef .tc main_while0b_v125) (ix3 b p c) : EReal)) Finset.univ := by
    after_reads_at
  rw [e, show (fun p => (StableHlo.after while0Ops0_4 V (Proc.devRef .tc main_while0b_v125) (ix3 b p c) : EReal)) = fun p => (f p : EReal) from funext hf]
  exact fold_max_real f

/-- The number that stands in for an infinite greatest term of the transition is zero. -/
theorem zero4_read : StableHlo.after while0Ops0_4 V (Proc.devRef .tc main_while0b_cst_29) ix0 = (0 : EReal) := by
  after_reads_at

/-- The number taken off the transition's terms is a real. -/
theorem tpick_read (b : Fin 8) (c : Fin 5) (h0 : V (Proc.devRef .tc main_while0b_cst_29) ix0 = (0 : EReal))
    (hm : Fin? (V (Proc.devRef .tc main_while0b_v127) (ix3 b 0 c))) :
    Fin? (StableHlo.after while0Ops0_5 V (Proc.devRef .tc main_while0b_v131) (ix3 b 0 c)) := by
  after_reads_at
  exact select_real _ hm ⟨0, h0⟩

/-- The scores of the last steps after the trip: the transition's in front, the rest moved down. -/
theorem hist_read (b : Fin 8) (j : Fin 16) (c : Fin 5) (f : Fin 5 → ℝ) (hf : ∀ p, V (Proc.devRef .tc main_while0b_v125) (ix3 b p c) = (f p : EReal))
    (hm : Fin? (V (Proc.devRef .tc main_while0b_v131) (ix3 b 0 c))) :
    StableHlo.after while0Ops0_6 V (Proc.devRef .tc main_while0b_v141) (ix3 b j c)
      = if h : j.val = 0 then (lse f : EReal) else V (Proc.devRef .tc main_v68_5) (ix3 b ⟨j.val - 1, by omega⟩ c) := by
  after_reads_at
  by_cases h : j.val = 0
  · rw [dif_pos (by omega), dif_pos h]
    exact lse_ref f hf hm
  · rw [dif_neg (by omega), dif_neg h]

/-- The last stretch of the trip carries the two results over. -/
theorem carry_read : StableHlo.after while0Ops0_8 V (Proc.devRef .tc main_v68_5) = V (Proc.devRef .tc main_while0b_v141)
    ∧ StableHlo.after while0Ops0_8 V (Proc.devRef .tc main_v68_6) = V (Proc.devRef .tc main_while0b_v142) := by
  constructor <;> (after_results; rfl)

/-- One trip of the loop: the scores of the last steps move on, and the step's scores are kept. -/
theorem trip_read (k : ℕ) (hk : k < 8192) (hV : V (Proc.devRef .tc main_v68_4) = fun _ => BitVec.ofNat 32 k)
    (cu : Fin 8 → ℕ → Fin 5 → ℝ) (tr : Fin 5 → Fin 5 → ℝ) (du : Fin 5 → Fin 16 → ℝ) (H : Fin 8 → Fin 16 → Fin 5 → ℝ)
    (h5 : ∀ b j c, V (Proc.devRef .tc main_v68_5) (ix3 b j c) = (H b j c : EReal))
    (h0 : ∀ b c, V (Proc.devRef .tc main_v68_0) (ix3 ⟨k, hk⟩ b c) = (cu b (k + 1) c : EReal))
    (h1 : ∀ b j c, V (Proc.devRef .tc main_v68_1) (ix4 ⟨k, hk⟩ b j c) = (prev (cu b) k j c : EReal))
    (h2 : ∀ j c, V (Proc.devRef .tc main_v68_2) (ix2 j c) = (du c j : EReal))
    (h3 : ∀ p c, V (Proc.devRef .tc main_v68_3) (ix2 p c) = (tr p c : EReal)) :
    (∀ b j c, afterL bodyI V (Proc.devRef .tc main_v68_5) (ix3 b j c)
      = ((if h : j.val = 0 then foldOf tr (alphaOf (cu b) du (H b) k) c else H b ⟨j.val - 1, by omega⟩ c : ℝ) : EReal))
    ∧ ∀ t b c, afterL bodyI V (Proc.devRef .tc main_v68_6) (ix3 t b c)
      = if t.val = k then (alphaOf (cu b) du (H b) k c : EReal) else V (Proc.devRef .tc main_v68_6) (ix3 t b c) := by
  unfold bodyI
  simp only [afterL_cons, afterL_nil]
  obtain ⟨X0, e0⟩ : ∃ X, X = StableHlo.after while0Ops0 V := ⟨_, rfl⟩
  have k0 {r : Ref sig .tc} (h : r ∉ while0Ops0_W) : X0 (Proc.devRef .tc r) = V (Proc.devRef .tc r) := e0 ▸ after_of_writes_sub while0Ops0 _ while0Ops0_writes h
  obtain ⟨X1, e1⟩ : ∃ X, X = StableHlo.after while0Ops0_1 X0 := ⟨_, rfl⟩
  have k1 {r : Ref sig .tc} (h : r ∉ while0Ops0_1_W) : X1 (Proc.devRef .tc r) = X0 (Proc.devRef .tc r) := e1 ▸ after_of_writes_sub while0Ops0_1 _ while0Ops0_1_writes h
  obtain ⟨X2, e2⟩ : ∃ X, X = StableHlo.after while0Ops0_2 X1 := ⟨_, rfl⟩
  have k2 {r : Ref sig .tc} (h : r ∉ while0Ops0_2_W) : X2 (Proc.devRef .tc r) = X1 (Proc.devRef .tc r) := e2 ▸ after_of_writes_sub while0Ops0_2 _ while0Ops0_2_writes h
  obtain ⟨X3, e3⟩ : ∃ X, X = StableHlo.after while0Ops0_3 X2 := ⟨_, rfl⟩
  have k3 {r : Ref sig .tc} (h : r ∉ while0Ops0_3_W) : X3 (Proc.devRef .tc r) = X2 (Proc.devRef .tc r) := e3 ▸ after_of_writes_sub while0Ops0_3 _ while0Ops0_3_writes h
  obtain ⟨X4, e4⟩ : ∃ X, X = StableHlo.after while0Ops0_4 X3 := ⟨_, rfl⟩
  have k4 {r : Ref sig .tc} (h : r ∉ while0Ops0_4_W) : X4 (Proc.devRef .tc r) = X3 (Proc.devRef .tc r) := e4 ▸ after_of_writes_sub while0Ops0_4 _ while0Ops0_4_writes h
  obtain ⟨X5, e5⟩ : ∃ X, X = StableHlo.after while0Ops0_5 X4 := ⟨_, rfl⟩
  have k5 {r : Ref sig .tc} (h : r ∉ while0Ops0_5_W) : X5 (Proc.devRef .tc r) = X4 (Proc.devRef .tc r) := e5 ▸ after_of_writes_sub while0Ops0_5 _ while0Ops0_5_writes h
  obtain ⟨X6, e6⟩ : ∃ X, X = StableHlo.after while0Ops0_6 X5 := ⟨_, rfl⟩
  have k6 {r : Ref sig .tc} (h : r ∉ while0Ops0_6_W) : X6 (Proc.devRef .tc r) = X5 (Proc.devRef .tc r) := e6 ▸ after_of_writes_sub while0Ops0_6 _ while0Ops0_6_writes h
  obtain ⟨X7, e7⟩ : ∃ X, X = StableHlo.after while0Ops0_7 X6 := ⟨_, rfl⟩
  have k7 {r : Ref sig .tc} (h : r ∉ while0Ops0_7_W) : X7 (Proc.devRef .tc r) = X6 (Proc.devRef .tc r) := e7 ▸ after_of_writes_sub while0Ops0_7 _ while0Ops0_7_writes h
  obtain ⟨X8, e8⟩ : ∃ X, X = StableHlo.after while0Ops0_8 X7 := ⟨_, rfl⟩
  have k8 {r : Ref sig .tc} (h : r ∉ while0Ops0_8_W) : X8 (Proc.devRef .tc r) = X7 (Proc.devRef .tc r) := e8 ▸ after_of_writes_sub while0Ops0_8 _ while0Ops0_8_writes h
  rw [← e0, ← e1, ← e2, ← e3, ← e4, ← e5, ← e6, ← e7, ← e8]
  have a0 : ∀ b c, X0 (Proc.devRef .tc main_while0b_v99) (ix2 b c) = (cu b (k + 1) c : EReal) := fun b c => (congrFun (congrFun e0 _) _).trans ((cur_read V k hk hV b c).trans (h0 b c))
  have c0 : X0 (Proc.devRef .tc main_v68_4) = V (Proc.devRef .tc main_v68_4) := k0 (by decide +kernel)
  have p0 : X0 (Proc.devRef .tc main_v68_1) = V (Proc.devRef .tc main_v68_1) := k0 (by decide +kernel)
  have a1 : ∀ b j c, X1 (Proc.devRef .tc main_while0b_v100) (ix3 b j c) = (prev (cu b) k j c : EReal) := fun b j c => (congrFun (congrFun e1 _) _).trans ((prev_read X0 k hk (c0.trans hV) b j c).trans ((congrFun p0 _).trans (h1 b j c)))
  have q1 : X1 (Proc.devRef .tc main_while0b_v99) = X0 (Proc.devRef .tc main_while0b_v99) := k1 (by decide +kernel)
  have q2 : X1 (Proc.devRef .tc main_v68_5) = V (Proc.devRef .tc main_v68_5) := (k1 (by decide +kernel)).trans (k0 (by decide +kernel))
  have q3 : X1 (Proc.devRef .tc main_v68_2) = V (Proc.devRef .tc main_v68_2) := (k1 (by decide +kernel)).trans (k0 (by decide +kernel))
  let f (b : Fin 8) (c : Fin 5) (j : Fin 16) : ℝ := H b j c + (cu b (k + 1) c - prev (cu b) k j c) + du c j
  have a2 : ∀ b j c, X2 (Proc.devRef .tc main_while0b_v107) (ix3 b j c) = (f b c j : EReal) := fun b j c => (congrFun (congrFun e2 _) _).trans (arg_read X1 b j c _ _ _ _ ((congrFun q2 _).trans (h5 b j c)) ((congrFun q1 _).trans (a0 b c)) (a1 b j c) ((congrFun q3 _).trans (h2 j c)))
  have m2 : ∀ b c, Fin? (X2 (Proc.devRef .tc main_while0b_v109) (ix3 b 0 c)) := fun b c => e2 ▸ max_read X1 b c (f b c) fun j => (congrFun (congrFun e2 _) _).symm.trans (a2 b j c)
  have z2 : X2 (Proc.devRef .tc main_while0b_cst_25) ix0 = (0 : EReal) := (congrFun (congrFun e2 _) _).trans (zero2_read X1)
  have m3 : ∀ b c, Fin? (X3 (Proc.devRef .tc main_while0b_v113) (ix3 b 0 c)) := fun b c => e3 ▸ pick_read X2 b c z2 (m2 b c)
  have r3 : X3 (Proc.devRef .tc main_while0b_v107) = X2 (Proc.devRef .tc main_while0b_v107) := k3 (by decide +kernel)
  have t3 : X3 (Proc.devRef .tc main_v68_3) = V (Proc.devRef .tc main_v68_3) := (((k3 (by decide +kernel)).trans (k2 (by decide +kernel))).trans (k1 (by decide +kernel))).trans (k0 (by decide +kernel))
  have a4 : ∀ b c, X4 (Proc.devRef .tc main_while0b_v120) (ix2 b c) = (alphaOf (cu b) du (H b) k c : EReal) := fun b c => (congrFun (congrFun e4 _) _).trans (alpha_read X3 b c (f b c) (fun j => (congrFun r3 _).trans (a2 b j c)) (m3 b c))
  have t4 : ∀ b p c, X4 (Proc.devRef .tc main_while0b_v125) (ix3 b p c) = ((alphaOf (cu b) du (H b) k p + tr p c : ℝ) : EReal) := fun b p c => (congrFun (congrFun e4 _) _).trans (tran_read X3 b p c _ _ ((congrFun (congrFun e4 _) _).symm.trans (a4 b p)) ((congrFun t3 _).trans (h3 p c)))
  have m4 : ∀ b c, Fin? (X4 (Proc.devRef .tc main_while0b_v127) (ix3 b 0 c)) := fun b c => e4 ▸ tmax_read X3 b c (fun p => alphaOf (cu b) du (H b) k p + tr p c) fun p => (congrFun (congrFun e4 _) _).symm.trans (t4 b p c)
  have z4 : X4 (Proc.devRef .tc main_while0b_cst_29) ix0 = (0 : EReal) := (congrFun (congrFun e4 _) _).trans (zero4_read X3)
  have m5 : ∀ b c, Fin? (X5 (Proc.devRef .tc main_while0b_v131) (ix3 b 0 c)) := fun b c => e5 ▸ tpick_read X4 b c z4 (m4 b c)
  have r5 : X5 (Proc.devRef .tc main_while0b_v125) = X4 (Proc.devRef .tc main_while0b_v125) := k5 (by decide +kernel)
  have u5 : X5 (Proc.devRef .tc main_v68_5) = V (Proc.devRef .tc main_v68_5) := (((((k5 (by decide +kernel)).trans (k4 (by decide +kernel))).trans (k3 (by decide +kernel))).trans (k2 (by decide +kernel))).trans (k1 (by decide +kernel))).trans (k0 (by decide +kernel))
  have a6 : ∀ b j c, X6 (Proc.devRef .tc main_while0b_v141) (ix3 b j c) = ((if h : j.val = 0 then foldOf tr (alphaOf (cu b) du (H b) k) c else H b ⟨j.val - 1, by omega⟩ c : ℝ) : EReal) := by
    intro b j c
    refine (congrFun (congrFun e6 _) _).trans ((hist_read X5 b j c (fun p => alphaOf (cu b) du (H b) k p + tr p c) (fun p => (congrFun r5 _).trans (t4 b p c)) (m5 b c)).trans ?_)
    split
    · rfl
    · exact (congrFun u5 _).trans (h5 _ _ _)
  have c6 : X6 (Proc.devRef .tc main_v68_4) = V (Proc.devRef .tc main_v68_4) := ((((((k6 (by decide +kernel)).trans (k5 (by decide +kernel))).trans (k4 (by decide +kernel))).trans (k3 (by decide +kernel))).trans (k2 (by decide +kernel))).trans (k1 (by decide +kernel))).trans (k0 (by decide +kernel))
  have v6 : X6 (Proc.devRef .tc main_v68_6) = V (Proc.devRef .tc main_v68_6) := ((((((k6 (by decide +kernel)).trans (k5 (by decide +kernel))).trans (k4 (by decide +kernel))).trans (k3 (by decide +kernel))).trans (k2 (by decide +kernel))).trans (k1 (by decide +kernel))).trans (k0 (by decide +kernel))
  have w6 : X6 (Proc.devRef .tc main_while0b_v120) = X4 (Proc.devRef .tc main_while0b_v120) := (k6 (by decide +kernel)).trans (k5 (by decide +kernel))
  have a7 : ∀ t b c, X7 (Proc.devRef .tc main_while0b_v142) (ix3 t b c) = if t.val = k then (alphaOf (cu b) du (H b) k c : EReal) else V (Proc.devRef .tc main_v68_6) (ix3 t b c) := by
    intro t b c
    refine (congrFun (congrFun e7 _) _).trans ((put_read X6 k (c6.trans hV) hk t b c).trans ?_)
    split
    · exact (congrFun w6 _).trans (a4 b c)
    · exact congrFun v6 _
  have r7 : X7 (Proc.devRef .tc main_while0b_v141) = X6 (Proc.devRef .tc main_while0b_v141) := k7 (by decide +kernel)
  have l8 := carry_read X7
  rw [← e8] at l8
  exact ⟨fun b j c => (congrFun l8.1 _).trans ((congrFun r7 _).trans (a6 b j c)), fun t b c => (congrFun l8.2 _).trans (a7 t b c)⟩

end Cert.ReferenceIdeal.Own
-- ==== Proof.RefScan.lean ====
/- The reference's loop: its scores before every trip. -/
module

public import proofs.«01_k».proof.Proof.RefTrip

@[expose] public section

noncomputable section

namespace Cert.ReferenceIdeal.Own

open Idealize.ShloMosaic Idealize.ShloMosaic.TcCoe Idealize.SL.Sem Cert.ReferenceIdeal Cert.ReferenceIdeal.Gen Cert.ReferenceIdeal.Value
open Cert.Spec Idealize.ShloMosaic.StableHlo

variable (V : Valuation τ sig (Elt Ideal))

/-- The counter's word before trip `k`. -/
theorem counter_word (k : ℕ) : Scf.iv 0#32 1#32 k = BitVec.ofNat 32 k := by
  induction k with
  | zero => rfl
  | succ k ih => rw [Scf.iv_succ, ih]; exact (BitVec.ofNat_add k 1).symm

variable (m : (ℓ : Loc nD τ sig) → Buf (Elt Ideal) ℓ) (c : Dev nD)

/-- Before trip `k` the loop holds the scores of the last steps, and the scores of the steps already taken. -/
theorem scan_at (cu : Fin 8 → ℕ → Fin 5 → ℝ) (tr : Fin 5 → Fin 5 → ℝ) (st : Fin 5 → ℝ) (du : Fin 5 → Fin 16 → ℝ) (ng : ℝ)
    (h5 : ∀ b j d, entryContents preI m c (Proc.devRef .tc main_v68_5) (ix3 b j d) = ((if j.val = 0 then st d else ng : ℝ) : EReal))
    (h0 : ∀ n b d, entryContents preI m c (Proc.devRef .tc main_v68_0) (ix3 n b d) = (cu b (n.val + 1) d : EReal))
    (h1 : ∀ n b j d, entryContents preI m c (Proc.devRef .tc main_v68_1) (ix4 n b j d) = (prev (cu b) n.val j d : EReal))
    (h2 : ∀ j d, entryContents preI m c (Proc.devRef .tc main_v68_2) (ix2 j d) = (du d j : EReal))
    (h3 : ∀ p d, entryContents preI m c (Proc.devRef .tc main_v68_3) (ix2 p d) = (tr p d : EReal)) (k : ℕ) (hk : k ≤ 8192) :
    (∀ b j d, atK m k c (Proc.devRef .tc main_v68_5) (ix3 b j d) = (hist (cu b) tr st du ng k j d : EReal))
    ∧ ∀ t b d, t.val < k → atK m k c (Proc.devRef .tc main_v68_6) (ix3 t b d) = (al (cu b) tr st du ng t.val d : EReal) := by
  induction k with
  | zero => exact ⟨h5, fun t b d h => absurd h (Nat.not_lt_zero _)⟩
  | succ k ih =>
    obtain ⟨i5, i6⟩ := ih (by omega)
    have q (r : Ref sig .tc) (h : r ∉ condOps_W) : StableHlo.after condOps (atK m k c) (Proc.devRef .tc r) = atK m k c (Proc.devRef .tc r) :=
      StableHlo.after_of_writes_sub condOps _ condOps_writes h
    have w (r : Ref sig .tc) (h : r ∉ tripW) : StableHlo.after condOps (atK m k c) (Proc.devRef .tc r) = entryContents preI m c (Proc.devRef .tc r) := by
      refine (q r fun hc => h ?_).trans (atK_keep m c r h k)
      simp only [tripW, List.mem_append]; tauto
    obtain ⟨t5, t6⟩ := trip_read (StableHlo.after condOps (atK m k c)) k (by omega)
      ((q _ (by decide +kernel)).trans ((atK_ctr m c k).trans (by rw [counter_word]))) cu tr du (fun b => hist (cu b) tr st du ng k)
      (fun b j d => (congrFun (q _ (by decide +kernel)) _).trans (i5 b j d))
      (fun b d => (congrFun (w _ (by decide +kernel)) _).trans (h0 _ b d))
      (fun b j d => (congrFun (w _ (by decide +kernel)) _).trans (h1 _ b j d))
      (fun j d => (congrFun (w _ (by decide +kernel)) _).trans (h2 j d))
      (fun p d => (congrFun (w _ (by decide +kernel)) _).trans (h3 p d))
    refine ⟨fun b j d => (t5 b j d).trans rfl, fun t b d ht => (t6 t b d).trans ?_⟩
    split
    · rename_i e; rw [e]; rfl
    · exact (congrFun (q _ (by decide +kernel)) _).trans (i6 t b d (by omega))

end Cert.ReferenceIdeal.Own
-- ==== Proof.RefEntry.lean ====
/- What the reference's loop starts from. -/
module

public import proofs.«01_k».proof.Proof.RefCum
public import proofs.«01_k».proof.Proof.RefRun
public import proofs.«01_k».proof.Proof.SpecScan
public import Idealize.ShloMosaic.Lib.Pointwise
public import Idealize.ShloMosaic.Lib.Routing.OpsSet
public import Idealize.ShloMosaic.Lib.StableHlo.ReadAt

@[expose] public section

noncomputable section

namespace Cert.ReferenceIdeal.Own

open Idealize.ShloMosaic Idealize.ShloMosaic.TcCoe Idealize.SL.Sem Cert.ReferenceIdeal Cert.ReferenceIdeal.Gen Cert.ReferenceIdeal.Value
open Cert.Spec

variable (V : Valuation τ sig (Elt Ideal))

open Idealize.ShloMosaic.StableHlo

/-- The totals with sixteen rows of zeros in front of them. -/
theorem pad_after (hc : V (Proc.devRef .tc main_c) (Shape.Idx.first h_S_) = 0#32) (cu : Fin 8 → ℕ → Fin 5 → ℝ)
    (hr : ∀ (b : Fin 8) (n : Fin 8193) (c : Fin 5), V (Proc.devRef .tc main_v23) (ix3 b n c) = (cu b n.val c : EReal)) (b : Fin 8) (n : Fin 8209) (c : Fin 5) :
    StableHlo.after hostOps0_3 V (Proc.devRef .tc main_v24) (ix3 b n c) = ((if 16 ≤ n.val then cu b (n.val - 16) c else 0 : ℝ) : EReal) := by
  after_reads_at
  by_cases h : 16 ≤ n.val
  · rw [dif_pos ⟨h, by omega⟩, if_pos h, hr]
  · rw [dif_neg fun g => h g.1, if_neg h, hc]
    show ((((0#32 : BitVec 32).toInt : ℝ)) : EReal) = _
    simp

/-- What is handed to the loop. -/
theorem handed : StableHlo.after hostOps0_4 V (Proc.devRef .tc main_v68_0) = StableHlo.after hostOps0_4 V (Proc.devRef .tc main_v65)
    ∧ StableHlo.after hostOps0_4 V (Proc.devRef .tc main_v68_1) = StableHlo.after hostOps0_4 V (Proc.devRef .tc main_v66)
    ∧ StableHlo.after hostOps0_4 V (Proc.devRef .tc main_v68_2) = StableHlo.after hostOps0_4 V (Proc.devRef .tc main_v59)
    ∧ StableHlo.after hostOps0_4 V (Proc.devRef .tc main_v68_3) = V (Proc.devRef .tc main_arg6)
    ∧ StableHlo.after hostOps0_4 V (Proc.devRef .tc main_v68_5) = StableHlo.after hostOps0_4 V (Proc.devRef .tc main_v64) := by
  refine ⟨?_, ?_, ?_, ?_, ?_⟩ <;> (after_results; rfl)

/-- The totals after each step. -/
theorem cur_after (n : Fin 8192) (b : Fin 8) (c : Fin 5) : StableHlo.after hostOps0_4 V (Proc.devRef .tc main_v65) (ix3 n b c)
    = V (Proc.devRef .tc main_v23) (ix3 b ⟨n.val + 1, by omega⟩ c) := by
  after_reads_at
  exact congrArg (fun k => V (Proc.devRef .tc main_v23) (ix3 b k c)) (Fin.ext (Nat.add_comm 1 n.val))

/-- The durations' scores, durations first. -/
theorem dur_after (j : Fin 16) (d : Fin 5) : StableHlo.after hostOps0_4 V (Proc.devRef .tc main_v59) (ix2 j d)
    = V (Proc.devRef .tc main_arg8) (ix2 d j) := by
  after_reads_at

/-- The number the rows in front are made of. -/
theorem front_after : StableHlo.after hostOps0_2 V (Proc.devRef .tc main_c) (Shape.Idx.first h_S_) = 0#32 := by
  after_results; rfl

/-- The totals before each of the last steps. -/
theorem past_after (n : Fin 8192) (b : Fin 8) (j : Fin 16) (c : Fin 5) : StableHlo.after hostOps0_4 V (Proc.devRef .tc main_v66) (ix4 n b j c)
    = V (Proc.devRef .tc main_v24) (ix3 b ⟨n.val + (16 - j.val), by omega⟩ c) := by
  have e (k : ℕ) (hk : k < 16) : StableHlo.after hostOps0_4 V (Proc.devRef .tc main_v66) (ix4 n b ⟨k, hk⟩ c)
    = V (Proc.devRef .tc main_v24) (ix3 b ⟨n.val + (16 - k), by omega⟩ c) := by
    interval_cases k
    all_goals
      after_reads_at
      unfold upto
      after_reads_at
      exact congrArg (fun k => V (Proc.devRef .tc main_v24) (ix3 b k c)) (Fin.ext (Nat.add_comm _ n.val))
  exact e j.val j.isLt

/-- Where a start score lands in the table of the last steps: in its row for the latest one. -/
theorem row_lands (idx : IVec S1 32) (hi : idx (ix1 0) = 0#32) (b b' : Fin 8) (j : Fin 16) (c c' : Fin 5) :
    scatter_S8x16x5_S1_S8x5_01_1_1_0.resultIdx? (ix2 b' c') idx = some (ix3 b j c) ↔ b' = b ∧ j.val = 0 ∧ c' = c := by
  rw [Routing.resultIdx?_eq_some]
  have hs : (scatter_S8x16x5_S1_S8x5_01_1_1_0).siIdx (ix2 b' c') ⟨0, by decide⟩ = ix1 0 := by
    funext a; fin_cases a; rfl
  have s1 : scatter_S8x16x5_S1_S8x5_01_1_1_0.start (ix2 b' c') idx 1 = 0 := by
    show (idx ((scatter_S8x16x5_S1_S8x5_01_1_1_0).siIdx (ix2 b' c') ⟨0, by decide⟩)).toInt = 0
    rw [hs, hi]; rfl
  constructor
  · intro h
    have h0 : (0 : Int) + (b'.val : Int) = (b.val : Int) := h 0
    have h1 := h 1
    rw [s1] at h1
    have h1' : (0 : Int) + ((0 : ℕ) : Int) = (j.val : Int) := h1
    have h2 : (0 : Int) + (c'.val : Int) = (c.val : Int) := h 2
    exact ⟨Fin.ext (by omega), by omega, Fin.ext (by omega)⟩
  · rintro ⟨rfl, hj, rfl⟩ a
    fin_cases a
    · exact Int.zero_add _
    · show scatter_S8x16x5_S1_S8x5_01_1_1_0.start (ix2 b' c') idx 1 + ((0 : ℕ) : Int) = (j.val : Int)
      rw [s1, hj]; rfl
    · exact Int.zero_add _

/-- The scores the loop starts from: the start scores for the latest step, the fill for the others. -/
theorem hist_after (b : Fin 8) (j : Fin 16) (c : Fin 5) (s g : ℝ) (hs : V (Proc.devRef .tc main_arg7) (ix1 c) = (s : EReal))
    (hg : Ideal.ofBits .f32 0xF149F2CA#32 = (g : EReal)) :
    StableHlo.after hostOps0_4 V (Proc.devRef .tc main_v64) (ix3 b j c) = ((if j.val = 0 then s else g : ℝ) : EReal) := by
  after_reads_at
  have hi : (broadcastInDim S1 ![] bcast_S_S1 (constantI S_ 32 0#32) : IVec S1 32) (ix1 0) = 0#32 := by pointwise
  have hu (b' : Fin 8) (c' : Fin 5) : (broadcastInDim S8x5 ![0, 1] bcast_S1x5_S8x5_0_1
      (broadcastInDim S1x5 ![1] bcast_S5_S1x5_1 (V (Proc.devRef .tc main_arg7))) : FVec Ideal S8x5 .f32) (ix2 b' c') = V (Proc.devRef .tc main_arg7) (ix1 c') := by pointwise
  by_cases h : j.val = 0
  · rw [if_pos h]
    refine Routing.scatter_set_hit _ _ _ _ _ _ (fun (k : S8x5.Idx) hk => ?_) (ix2 b c) ((row_lands _ hi b b j c c).mpr ⟨rfl, h, rfl⟩)
    obtain ⟨b', c', rfl⟩ : ∃ b' c', k = ix2 b' c' := ⟨_, _, ValueIdx.eq_ix2 k⟩
    obtain ⟨rfl, -, rfl⟩ := (row_lands _ hi b b' j c c').mp hk
    exact (hu _ _).trans hs
  · rw [if_neg h, ← hg]
    refine (Routing.scatter_set_miss _ _ _ _ _ fun (k : S8x5.Idx) hk => ?_).trans ?_
    · obtain ⟨b', c', rfl⟩ : ∃ b' c', k = ix2 b' c' := ⟨_, _, ValueIdx.eq_ix2 k⟩
      exact h ((row_lands _ hi b b' j c c').mp hk).2.1
    · pointwise

variable (m : (ℓ : Loc nD τ sig) → Buf (Elt Ideal) ℓ) (c : Dev nD)

/-- What the loop starts from: the totals, those before each of the last steps, the scores. -/
theorem entry_reads (hA : Real? (argsOf m c)) :
    (∀ b n d, entryContents preI m c (Proc.devRef .tc main_v23) (ix3 b n d) = (cum (argsOf m c) b n.val d : EReal))
    ∧ (∀ b j d, entryContents preI m c (Proc.devRef .tc main_v68_5) (ix3 b j d) = ((if j.val = 0 then stR (argsOf m c) d else ngR : ℝ) : EReal))
    ∧ (∀ n b d, entryContents preI m c (Proc.devRef .tc main_v68_0) (ix3 n b d) = (cuR (argsOf m c) b (n.val + 1) d : EReal))
    ∧ (∀ n b j d, entryContents preI m c (Proc.devRef .tc main_v68_1) (ix4 n b j d) = (prev (cuR (argsOf m c) b) n.val j d : EReal))
    ∧ (∀ j d, entryContents preI m c (Proc.devRef .tc main_v68_2) (ix2 j d) = (duR (argsOf m c) d j : EReal))
    ∧ (∀ p d, entryContents preI m c (Proc.devRef .tc main_v68_3) (ix2 p d) = (trR (argsOf m c) p d : EReal)) := by
  obtain ⟨X, hE, hX⟩ : ∃ X : Valuation τ sig (Elt Ideal), entryContents preI m c = afterL preI X ∧ Holds (argsOf m c) X :=
    ⟨_, rfl, ⟨fun _ _ _ => rfl, fun _ => rfl, fun _ _ => rfl, fun _ => rfl, fun _ _ => rfl, fun _ => rfl, fun _ _ => rfl, fun _ => rfl, fun _ _ => rfl⟩⟩
  rw [hE]
  simp only [afterL_cons, afterL_nil]
  obtain ⟨X0, e0⟩ : ∃ Y, Y = StableHlo.after hostOps0 X := ⟨_, rfl⟩
  have k0 {r : Ref sig .tc} (h : r ∉ hostOps0_W) : X0 (Proc.devRef .tc r) = X (Proc.devRef .tc r) := e0 ▸ after_of_writes_sub hostOps0 _ hostOps0_writes h
  obtain ⟨X1, e1⟩ : ∃ Y, Y = StableHlo.after hostOps0_1 X0 := ⟨_, rfl⟩
  have k1 {r : Ref sig .tc} (h : r ∉ hostOps0_1_W) : X1 (Proc.devRef .tc r) = X0 (Proc.devRef .tc r) := e1 ▸ after_of_writes_sub hostOps0_1 _ hostOps0_1_writes h
  obtain ⟨X2, e2⟩ : ∃ Y, Y = StableHlo.after hostOps0_2 X1 := ⟨_, rfl⟩
  have k2 {r : Ref sig .tc} (h : r ∉ hostOps0_2_W) : X2 (Proc.devRef .tc r) = X1 (Proc.devRef .tc r) := e2 ▸ after_of_writes_sub hostOps0_2 _ hostOps0_2_writes h
  obtain ⟨X3, e3⟩ : ∃ Y, Y = StableHlo.after hostOps0_3 X2 := ⟨_, rfl⟩
  have k3 {r : Ref sig .tc} (h : r ∉ hostOps0_3_W) : X3 (Proc.devRef .tc r) = X2 (Proc.devRef .tc r) := e3 ▸ after_of_writes_sub hostOps0_3 _ hostOps0_3_writes h
  obtain ⟨X4, e4⟩ : ∃ Y, Y = StableHlo.after hostOps0_4 X3 := ⟨_, rfl⟩
  have k4 {r : Ref sig .tc} (h : r ∉ hostOps0_4_W) : X4 (Proc.devRef .tc r) = X3 (Proc.devRef .tc r) := e4 ▸ after_of_writes_sub hostOps0_4 _ hostOps0_4_writes h
  rw [← e0, ← e1, ← e2, ← e3, ← e4]
  have r0 : ∀ b n d, X0 (Proc.devRef .tc main_v20) (ix3 b n d) = emi (argsOf m c) b n d := fun b n d => (congrFun (congrFun e0 _) _).trans (emi_after _ X hX b n d)
  have z0 : ∀ b n d, X0 (Proc.devRef .tc main_v21) (ix3 b n d) = (0 : EReal) := fun b n d => (congrFun (congrFun e0 _) _).trans (zeros_after X b n d)
  have r1 : ∀ (b : Fin 8) (n : Fin 8192) (d : Fin 5), X1 (Proc.devRef .tc main_v22) (ix3 b n d) = cum (argsOf m c) b (n.val + 1) d := fun b n d => (congrFun (congrFun e1 _) _).trans (run_after _ X0 r0 b n d)
  have z1 : X1 (Proc.devRef .tc main_v21) = X0 (Proc.devRef .tc main_v21) := k1 (by decide +kernel)
  have r2 : ∀ b n d, X2 (Proc.devRef .tc main_v23) (ix3 b n d) = cum (argsOf m c) b n.val d := fun b n d => (congrFun (congrFun e2 _) _).trans (cum_after _ X1 (fun b n d => (congrFun z1 _).trans (z0 b n d)) r1 b n d)
  have w2 : X2 (Proc.devRef .tc main_c) (Shape.Idx.first h_S_) = 0#32 := (congrFun (congrFun e2 _) _).trans (front_after X1)
  have q2 : ∀ (b : Fin 8) (n : Fin 8193) (d : Fin 5), X2 (Proc.devRef .tc main_v23) (ix3 b n d) = (cuR (argsOf m c) b n.val d : EReal) := fun b n d => (r2 b n d).trans (hA.cum b n.val d).coe_toReal
  have r3 : ∀ (b : Fin 8) (n : Fin 8209) (d : Fin 5), X3 (Proc.devRef .tc main_v24) (ix3 b n d) = ((if 16 ≤ n.val then cuR (argsOf m c) b (n.val - 16) d else 0 : ℝ) : EReal) := fun b n d => (congrFun (congrFun e3 _) _).trans (pad_after X2 w2 (cuR (argsOf m c)) q2 b n d)
  have t3 : X3 (Proc.devRef .tc main_v23) = X2 (Proc.devRef .tc main_v23) := k3 (by decide +kernel)
  have a7 : X3 (Proc.devRef .tc main_arg7) = X (Proc.devRef .tc main_arg7) := (((k3 (by decide +kernel)).trans (k2 (by decide +kernel))).trans (k1 (by decide +kernel))).trans (k0 (by decide +kernel))
  have a8 : X3 (Proc.devRef .tc main_arg8) = X (Proc.devRef .tc main_arg8) := (((k3 (by decide +kernel)).trans (k2 (by decide +kernel))).trans (k1 (by decide +kernel))).trans (k0 (by decide +kernel))
  have a6 : X3 (Proc.devRef .tc main_arg6) = X (Proc.devRef .tc main_arg6) := (((k3 (by decide +kernel)).trans (k2 (by decide +kernel))).trans (k1 (by decide +kernel))).trans (k0 (by decide +kernel))
  have t4 : X4 (Proc.devRef .tc main_v23) = X2 (Proc.devRef .tc main_v23) := (k4 (by decide +kernel)).trans (k3 (by decide +kernel))
  obtain ⟨l0, l1, l2, l3, l5⟩ := handed X3
  rw [← e4] at l0 l1 l2 l3 l5
  refine ⟨fun b n d => (congrFun t4 _).trans (r2 b n d), fun b j d => (congrFun l5 _).trans ?_, fun n b d => (congrFun l0 _).trans ?_,
    fun n b j d => (congrFun l1 _).trans ?_, fun j d => (congrFun l2 _).trans ?_, fun p d => (congrFun l3 _).trans ?_⟩
  · exact e4 ▸ hist_after X3 b j d _ _ ((congrFun a7 _).trans ((hX.st d).trans (hA.st d).coe_toReal)) ngR_eq
  · exact (congrFun (congrFun e4 _) _).trans ((cur_after X3 n b d).trans ((congrFun t3 _).trans (q2 _ _ _)))
  · refine (congrFun (congrFun e4 _) _).trans ((past_after X3 n b j d).trans ((r3 _ _ _).trans ?_))
    have hj := j.isLt
    unfold prev
    by_cases h : j.val ≤ n.val
    · rw [if_pos (show 16 ≤ n.val + (16 - j.val) by omega), if_pos h, show n.val + (16 - j.val) - 16 = n.val - j.val by omega]
    · rw [if_neg (show ¬ 16 ≤ n.val + (16 - j.val) by omega), if_neg h]
  · exact (congrFun (congrFun e4 _) _).trans ((dur_after X3 j d).trans ((congrFun a8 _).trans ((hX.du d j).trans (hA.du d j).coe_toReal)))
  · exact (congrFun a6 _).trans ((hX.tr p d).trans (hA.tr p d).coe_toReal)

end Cert.ReferenceIdeal.Own
-- ==== Proof.RefPost.lean ====
/- The reference's results after its loop. -/
module

public import proofs.«01_k».proof.Proof.RefScan
public import proofs.«01_k».proof.Proof.RefEntry

@[expose] public section

noncomputable section

namespace Cert.ReferenceIdeal.Own

open Idealize.ShloMosaic Idealize.ShloMosaic.TcCoe Idealize.SL.Sem Cert.ReferenceIdeal Cert.ReferenceIdeal.Gen Cert.ReferenceIdeal.Value
open Cert.Spec

variable (V : Valuation τ sig (Elt Ideal))

open Idealize.ShloMosaic.StableHlo

/-- The read of the scores of all steps at a step and a sequence. -/
theorem gather_last_at (x : S8192x8x5.Idx → EReal) (idx : IVec S8x2 32) (b : Fin 8) (c : Fin 5) (n : Fin 8192)
    (h0 : (idx (ix2 b 0)).toInt.toNat = n.val) (h1 : (idx (ix2 b 1)).toInt.toNat = b.val) :
    Host.gather gather_S8192x8x5_S8x2_S8x5_1_01_n_n_01_1_115 x idx (ix2 b c) = x (ix3 n b c) := by
  unfold Host.gather
  refine congrArg x (funext fun a => Fin.ext ?_)
  have hs0 : (gather_S8192x8x5_S8x2_S8x5_1_01_n_n_01_1_115).siIdx (ix2 b c) ⟨0, by decide⟩ = ix2 b 0 := by
    funext a; fin_cases a <;> rfl
  have hs1 : (gather_S8192x8x5_S8x2_S8x5_1_01_n_n_01_1_115).siIdx (ix2 b c) ⟨1, by decide⟩ = ix2 b 1 := by
    funext a; fin_cases a <;> rfl
  have hn := n.isLt
  have hb := b.isLt
  fin_cases a
  · show min (idx ((gather_S8192x8x5_S8x2_S8x5_1_01_n_n_01_1_115).siIdx (ix2 b c) ⟨0, by decide⟩)).toInt.toNat (8192 - 1) + 0 + 0 = n.val
    rw [hs0, h0]; omega
  · show min (idx ((gather_S8192x8x5_S8x2_S8x5_1_01_n_n_01_1_115).siIdx (ix2 b c) ⟨1, by decide⟩)).toInt.toNat (8 - 1) + 0 + 0 = b.val
    rw [hs1, h1]; omega
  · exact Nat.zero_add _

/-- The place of the last position. -/
theorem at0_after (b : Fin 8) (l : BitVec 32) (hl : V (Proc.devRef .tc main_arg1) (ix1 b) = l) (h1 : 1 ≤ l.toNat) (h2 : l.toNat ≤ 8192) :
    (StableHlo.after hostOps0_5 V (Proc.devRef .tc main_v84) (ix2 b 0) : BitVec 32).toInt.toNat = l.toNat - 1 := by
  have e : StableHlo.after hostOps0_5 V (Proc.devRef .tc main_v84) (ix2 b 0) = l - 1#32 := by
    after_reads_at
    rw [hl]
    refine Routing.wrap_of_lt (l - 1#32) _ ?_
    rw [BitVec.toNat_sub]; simp; omega
  rw [e, BitVec.toInt_eq_toNat_cond, BitVec.toNat_sub]
  simp
  omega

/-- The place of the sequence. -/
theorem at1_after (b : Fin 8) : (StableHlo.after hostOps0_5 V (Proc.devRef .tc main_v84) (ix2 b 1) : BitVec 32).toInt.toNat = b.val := by
  have e : StableHlo.after hostOps0_5 V (Proc.devRef .tc main_v84) (ix2 b 1) = BitVec.ofNat 32 b.val := by
    after_reads_at
    exact Routing.wrap_of_lt _ _ (by simp; omega)
  rw [e]
  fin_cases b <;> rfl

/-- The scores read at the last positions. -/
theorem last_after : StableHlo.after hostOps0_5 V (Proc.devRef .tc main_v85) = Host.gather gather_S8192x8x5_S8x2_S8x5_1_01_n_n_01_1_115 (V (Proc.devRef .tc main_v68_6)) (StableHlo.after hostOps0_5 V (Proc.devRef .tc main_v84)) := by
  after_results

/-- The greatest of these. -/
theorem lmax_after (b : Fin 8) : StableHlo.after hostOps0_5 V (Proc.devRef .tc main_v87) (ix2 b 0)
      = Finset.fold max (Ideal.ofBits .f32 4286578688#32) (fun p => (StableHlo.after hostOps0_5 V (Proc.devRef .tc main_v85) (ix2 b p) : EReal)) Finset.univ := by
  after_reads_at

/-- The number that stands in for an infinite greatest score is zero. -/
theorem zero5_read : StableHlo.after hostOps0_5 V (Proc.devRef .tc main_cst_15) ix0 = (0 : EReal) := by
  after_reads_at

/-- The number taken off the scores is a real. -/
theorem lpick_read (b : Fin 8) (h0 : V (Proc.devRef .tc main_cst_15) ix0 = (0 : EReal))
    (hm : Fin? (V (Proc.devRef .tc main_v87) (ix2 b 0))) :
    Fin? (StableHlo.after hostOps0_6 V (Proc.devRef .tc main_v91) (ix2 b 0)) := by
  after_reads_at
  exact select_real _ hm ⟨0, h0⟩

/-- The score of a sequence. -/
theorem part_read (b : Fin 8) (f : Fin 5 → ℝ) (hf : ∀ j, V (Proc.devRef .tc main_v85) (ix2 b j) = (f j : EReal))
    (hm : Fin? (V (Proc.devRef .tc main_v91) (ix2 b 0))) :
    StableHlo.after hostOps0_7 V (Proc.devRef .tc main_v98) (ix1 b) = (lse f : EReal) := by
  after_reads_at
  exact lse_ref f hf hm

variable (m : (ℓ : Loc nD τ sig) → Buf (Elt Ideal) ℓ) (c : Dev nD)

/-- The reference's first result: the score of each sequence. -/
theorem final_part (hA : Real? (argsOf m c)) (hl : Len? (argsOf m c)) (b : Fin 8) :
    finalContents condOps preI bodyI postI 8192 m c (Proc.devRef .tc main_v98) (ix1 b) = (part (argsOf m c) b : EReal) := by
  obtain ⟨-, h5, h0, h1, h2, h3⟩ := entry_reads m c hA
  obtain ⟨-, hS⟩ := scan_at m c (cuR (argsOf m c)) (trR (argsOf m c)) (stR (argsOf m c)) (duR (argsOf m c)) ngR h5 h0 h1 h2 h3 8192 (le_refl _)
  obtain ⟨X, hE, hX⟩ : ∃ X : Valuation τ sig (Elt Ideal), finalContents condOps preI bodyI postI 8192 m c = afterL postI X
      ∧ X = StableHlo.after condOps (atK m 8192 c) := ⟨_, rfl, rfl⟩
  have x6 (t : Fin 8192) (d : Fin 5) : X (Proc.devRef .tc main_v68_6) (ix3 t b d) = (alR (argsOf m c) b t.val d : EReal) :=
    (congrFun ((congrFun hX _).trans (StableHlo.after_of_writes_sub condOps _ condOps_writes (by decide +kernel))) _).trans (hS t b d t.isLt)
  have xl : X (Proc.devRef .tc main_arg1) (ix1 b) = (argsOf m c).len b :=
    congrFun (((congrFun hX _).trans (StableHlo.after_of_writes_sub condOps _ condOps_writes (by decide +kernel))).trans
      ((atK_keep m c main_arg1 (by decide +kernel) 8192).trans (pre_keep _ main_arg1 (by decide +kernel)))) _
  obtain ⟨g1, g2⟩ := hl b
  rw [hE]
  simp only [afterL_cons, afterL_nil]
  obtain ⟨X0, e0⟩ : ∃ Y, Y = StableHlo.after hostOps0_5 X := ⟨_, rfl⟩
  obtain ⟨X1, e1⟩ : ∃ Y, Y = StableHlo.after hostOps0_6 X0 := ⟨_, rfl⟩
  rw [← e0, ← e1]
  have r0 (d : Fin 5) : X0 (Proc.devRef .tc main_v85) (ix2 b d) = (alR (argsOf m c) b (((argsOf m c).len b).toNat - 1) d : EReal) := by
    rw [e0]
    refine (congrFun (last_after X) _).trans ((gather_last_at _ _ b d ⟨((argsOf m c).len b).toNat - 1, by omega⟩ (at0_after X b _ xl g1 g2) (at1_after X b)).trans (x6 _ d))
  have m0 : Fin? (X0 (Proc.devRef .tc main_v87) (ix2 b 0)) := by
    rw [e0, lmax_after, ← e0, show (fun p => (X0 (Proc.devRef .tc main_v85) (ix2 b p) : EReal)) = fun p => ((alR (argsOf m c) b (((argsOf m c).len b).toNat - 1) p : ℝ) : EReal) from funext r0]
    exact fold_max_real _
  have z0 : X0 (Proc.devRef .tc main_cst_15) ix0 = (0 : EReal) := (congrFun (congrFun e0 _) _).trans (zero5_read X)
  have m1 : Fin? (X1 (Proc.devRef .tc main_v91) (ix2 b 0)) := e1 ▸ lpick_read X0 b z0 m0
  have r1 (d : Fin 5) : X1 (Proc.devRef .tc main_v85) (ix2 b d) = (alR (argsOf m c) b (((argsOf m c).len b).toNat - 1) d : EReal) :=
    (congrFun ((congrFun e1 _).trans (StableHlo.after_of_writes_sub hostOps0_6 _ hostOps0_6_writes (by decide +kernel))) _).trans (r0 d)
  exact part_read X1 b _ r1 m1

/-- The reference's second result: the totals. -/
theorem final_cum (hA : Real? (argsOf m c)) (b : Fin 8) (n : Fin 8193) (d : Fin 5) :
    finalContents condOps preI bodyI postI 8192 m c (Proc.devRef .tc main_v23) (ix3 b n d) = (cum (argsOf m c) b n.val d : EReal) :=
  (congrFun (final_keep m c main_v23 (by decide +kernel) (by decide +kernel)) _).trans ((entry_reads m c hA).1 b n d)

end Cert.ReferenceIdeal.Own
-- ==== Proof.Algebraic.lean ====
/- The kernel's results and the reference's are equal: both are the segmentations' scores and the totals of the emission scores. -/
module

public import proofs.«01_k».proof.Defs
public import proofs.«01_k».proof.Proof.KernelValue
public import proofs.«01_k».proof.Proof.RunIdeal
public import proofs.«01_k».proof.Proof.RefPost

@[expose] public section

noncomputable section

namespace Cert.Own

open Idealize.ShloMosaic Idealize.ShloMosaic.TcCoe Idealize.SL.Sem Cert.Spec

/-- The precondition's shape relations hold. -/
theorem pre_facts : Cert.Pre_finite_and_in_range.Facts := by
  constructor <;> decide

/-- An array whose numbers all pass the test `|x| < inf` holds reals. -/
theorem fin_of_test {s : Shape} (x : FVec Ideal s .f32) (hb : Cert.Pre_finite_and_in_range.S_.BroadcastsInDim s (![] : Fin 0 → Fin s.rank))
    (h : cmpf .olt (Host.absf x) (broadcastInDim s ![] hb (constant Cert.Pre_finite_and_in_range.S_ .f32 0x7F800000#32)) = fun _ => 1#1) (i : s.Idx) : Fin? (x i) := by
  have e : BitVec.ofBool (decide (FloatOps.absf (x i) < Ideal.ofBits .f32 0x7F800000#32)) = 1#1 := congrFun h i
  have lt : FloatOps.absf (x i) < Ideal.ofBits .f32 0x7F800000#32 := by
    by_contra hn
    rw [decide_eq_false hn] at e
    exact absurd e (by decide)
  rw [show Ideal.ofBits .f32 0x7F800000#32 = ⊤ from by simp [Ideal.ofBits, Ideal.ieee]] at lt
  generalize x i = y at lt
  change max y (-y) < (⊤ : EReal) at lt
  obtain ⟨l1, l2⟩ := max_lt_iff.mp lt
  refine ⟨y.toReal, (EReal.coe_toReal l1.ne ?_).symm⟩
  rintro rfl
  exact absurd l2 (by simp)

/-- A word between 1 and 8192, read signed. -/
theorem len_of_test (l : BitVec 32) (h : IntOp.andi (IntOp.cmpi .sge l 1#32) (IntOp.cmpi .sle l 8192#32) = 1#1) : 1 ≤ l.toNat ∧ l.toNat ≤ 8192 := by
  have h' : BitVec.ofBool ((1#32).sle l) &&& BitVec.ofBool (l.sle 8192#32) = 1#1 := h
  cases e1 : (1#32).sle l with
  | false => rw [e1] at h'; simp at h'
  | true =>
    cases e2 : l.sle 8192#32 with
    | false => rw [e2] at h'; simp at h'
    | true =>
      rw [BitVec.sle_eq_decide, decide_eq_true_eq, show (1#32 : BitVec 32).toInt = 1 from rfl] at e1
      rw [BitVec.sle_eq_decide, decide_eq_true_eq, show (8192#32 : BitVec 32).toInt = 8192 from rfl] at e2
      have := l.isLt
      rw [BitVec.toInt_eq_toNat_cond] at e1 e2
      constructor <;> (split at e1 <;> omega)

section
variable [hP : Cert.Pre_finite_and_in_range.Facts] (m : (ℓ : Loc Cert.KernelIdeal.nD Cert.KernelIdeal.τ Cert.KernelIdeal.sig) → Buf (Elt Ideal) ℓ)

/-- The precondition says that the arguments are reals. -/
theorem real_of_pre (h : Cert.Pre_KernelIdeal_finite_and_in_range m) (c : Dev Cert.KernelIdeal.nD) : Real? (Cert.KernelIdeal.Own.argsOf m c) := by
  obtain ⟨h0, h2, h3, h4, h5, h6, h7, h8, -⟩ := h c
  exact ⟨fun b j q => fin_of_test _ _ h0 (ix3 b j q), fun q k => fin_of_test _ _ h2 (ix2 q k), fun k => fin_of_test _ _ h3 (ix1 k),
    fun k d => fin_of_test _ _ h4 (ix2 k d), fun d => fin_of_test _ _ h5 (ix1 d), fun p d => fin_of_test _ _ h6 (ix2 p d),
    fun d => fin_of_test _ _ h7 (ix1 d), fun d j => fin_of_test _ _ h8 (ix2 d j)⟩

/-- The precondition says that the lengths are in range. -/
theorem len_of_pre (h : Cert.Pre_KernelIdeal_finite_and_in_range m) (c : Dev Cert.KernelIdeal.nD) : Len? (Cert.KernelIdeal.Own.argsOf m c) := fun b => by
  obtain ⟨-, -, -, -, -, -, -, -, h1⟩ := h c
  exact len_of_test _ (congrFun h1 (ix1 b))

/-- Memories that agree on the arguments name the same ones. -/
theorem args_agree (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Own.argsOf m' c = Cert.KernelIdeal.Own.argsOf m c := by
  obtain ⟨h0, h1, h2, h3, h4, h5, h6, h7, h8⟩ := h
  refine Spec.Args.ext ?_ ?_ ?_ ?_ ?_ ?_ ?_ ?_ ?_
  · exact funext fun b => funext fun j => funext fun q => congrFun h0 (ix3 b j q)
  · exact funext fun b => congrFun h1 (ix1 b)
  · exact funext fun q => funext fun k => congrFun h2 (ix2 q k)
  · exact funext fun k => congrFun h3 (ix1 k)
  · exact funext fun k => funext fun d => congrFun h4 (ix2 k d)
  · exact funext fun d => congrFun h5 (ix1 d)
  · exact funext fun p => funext fun d => congrFun h6 (ix2 p d)
  · exact funext fun d => congrFun h7 (ix1 d)
  · exact funext fun d => funext fun j => congrFun h8 (ix2 d j)

end

/-- Both programs compute the segmentations' scores and the emission scores' totals. -/
theorem algebraic : Cert.algebraic_KernelIdeal_ReferenceIdeal_pre_finite_and_in_range
    (hKernelIdeal := Cert.KernelIdeal.Gen.facts) (hReferenceIdeal := Cert.ReferenceIdeal.Gen.facts) (hPre_finite_and_in_range := pre_facts) := by
  letI := pre_facts
  intro m g m' g' hp ha
  refine ⟨fun c => (fun i : Cert.KernelIdeal.S8.Idx => (part (Cert.KernelIdeal.Own.argsOf m c) (i 0) : EReal)),
    fun c => (fun i : Cert.KernelIdeal.S8x8193x5.Idx => cum (Cert.KernelIdeal.Own.argsOf m c) (i 0) (i 1).val (i 2)), ?_, ?_⟩
  · refine (θ_run _ _ _).mono (fun r h c => ?_) (Cert.KernelIdeal.Own.run_main (F := Ideal) m g)
    exact ⟨(h.1.at m c Cert.KernelIdeal.main_v81 rfl).trans (Cert.KernelIdeal.Own.V11_part m c (real_of_pre m hp c) (len_of_pre m hp c)),
      (h.1.at m c Cert.KernelIdeal.main_v4 rfl).trans (Cert.KernelIdeal.Own.V11_cum m c),
      (h.1.at m c Cert.KernelIdeal.main_arg0 rfl).trans (Cert.KernelIdeal.Gen.V11_main_arg0 m _ c),
      (h.1.at m c Cert.KernelIdeal.main_arg1 rfl).trans (Cert.KernelIdeal.Gen.V11_main_arg1 m _ c),
      (h.1.at m c Cert.KernelIdeal.main_arg2 rfl).trans (Cert.KernelIdeal.Gen.V11_main_arg2 m _ c),
      (h.1.at m c Cert.KernelIdeal.main_arg3 rfl).trans (Cert.KernelIdeal.Gen.V11_main_arg3 m _ c),
      (h.1.at m c Cert.KernelIdeal.main_arg4 rfl).trans (Cert.KernelIdeal.Gen.V11_main_arg4 m _ c),
      (h.1.at m c Cert.KernelIdeal.main_arg5 rfl).trans (Cert.KernelIdeal.Gen.V11_main_arg5 m _ c),
      (h.1.at m c Cert.KernelIdeal.main_arg6 rfl).trans (Cert.KernelIdeal.Gen.V11_main_arg6 m _ c),
      (h.1.at m c Cert.KernelIdeal.main_arg7 rfl).trans (Cert.KernelIdeal.Gen.V11_main_arg7 m _ c),
      (h.1.at m c Cert.KernelIdeal.main_arg8 rfl).trans (Cert.KernelIdeal.Gen.V11_main_arg8 m _ c)⟩
  · refine (θ_run _ _ _).mono (fun r h c => ?_) (Cert.ReferenceIdeal.Own.run_main (F := Ideal) m' g')
    have e := args_agree m m' c (ha c)
    have hA : Real? (Cert.ReferenceIdeal.Own.argsOf m' c) := e ▸ real_of_pre m hp c
    have hL : Len? (Cert.ReferenceIdeal.Own.argsOf m' c) := e ▸ len_of_pre m hp c
    have k (b) (h0 : b ∉ Cert.ReferenceIdeal.Own.preW) (h1 : b ∉ Cert.ReferenceIdeal.Own.tripW) (h2 : b ∉ Cert.ReferenceIdeal.Own.postW) (hs) :=
      (h.1 c b hs).trans (Cert.ReferenceIdeal.Own.final_arg m' c b h0 h1 h2)
    refine ⟨(h.1 c Cert.ReferenceIdeal.main_v98 rfl).trans ?_, (h.1 c Cert.ReferenceIdeal.main_v23 rfl).trans ?_,
      k _ (by decide +kernel) (by decide +kernel) (by decide +kernel) rfl, k _ (by decide +kernel) (by decide +kernel) (by decide +kernel) rfl,
      k _ (by decide +kernel) (by decide +kernel) (by decide +kernel) rfl, k _ (by decide +kernel) (by decide +kernel) (by decide +kernel) rfl,
      k _ (by decide +kernel) (by decide +kernel) (by decide +kernel) rfl, k _ (by decide +kernel) (by decide +kernel) (by decide +kernel) rfl,
      k _ (by decide +kernel) (by decide +kernel) (by decide +kernel) rfl, k _ (by decide +kernel) (by decide +kernel) (by decide +kernel) rfl,
      k _ (by decide +kernel) (by decide +kernel) (by decide +kernel) rfl⟩
    · funext (i : Cert.ReferenceIdeal.S8.Idx)
      obtain ⟨b, rfl⟩ : ∃ b, i = ix1 b := ⟨_, ValueIdx.eq_ix1 i⟩
      exact (Cert.ReferenceIdeal.Own.final_part m' c hA hL b).trans (congrArg (fun A => (part A b : EReal)) e)
    · funext (i : Cert.ReferenceIdeal.S8x8193x5.Idx)
      obtain ⟨b, n, d, rfl⟩ : ∃ b n d, i = ix3 b n d := ⟨_, _, _, ValueIdx.eq_ix3 i⟩
      exact (Cert.ReferenceIdeal.Own.final_cum m' c hA b n d).trans (congrArg (fun A => cum A b n.val d) e)

end Cert.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.FrameIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the frames, that the two kernel programs are one text's, and that the kernel's results are the reference's. -/
theorem claim : Cert.Claim := ⟨Cert.Kernel.Gen.facts, Cert.KernelIdeal.Gen.facts, Cert.ReferenceIdeal.Gen.facts, Cert.Own.pre_facts,
  fun m g _ => Cert.Kernel.Own.frame_main m g, fun m g _ => Cert.KernelIdeal.Own.frame_main m g, fun m g _ => Cert.KernelIdeal.Own.frame_main m g,
  fun m g _ => Cert.ReferenceIdeal.Own.frame_main m g, fun m g _ => Cert.ReferenceIdeal.Own.frame_main m g, trivial, Cert.Own.algebraic⟩

end Cert.Proof

end
